-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_on_compared [hKernelIdeal : Cert.KernelIdeal.Facts] [hReferenceIdeal : Cert.ReferenceIdeal.Facts] [hOn_compared : Cert.On_compared.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![3, 1024, 3584]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v6) i = v0 c i)
          ∧ (∀ i : (⟨3, ![3, 1024, 3584]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v7) i = v1 c i)
          ∧ (∀ i : (⟨3, ![3, 1024, 1]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 i = 1#1 → r.2.mem ((c.tc : Thread Cert.KernelIdeal.nD Cert.KernelIdeal.τ).loc Cert.KernelIdeal.main_v8) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![3, 1024, 3584]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v6) i = v0 c i)
          ∧ (∀ i : (⟨3, ![3, 1024, 3584]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v7) i = v1 c i)
          ∧ (∀ i : (⟨3, ![3, 1024, 1]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 i = 1#1 → r.2.mem ((c.tc : Thread Cert.ReferenceIdeal.nD Cert.ReferenceIdeal.τ).loc Cert.ReferenceIdeal.main_v8) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hOn_compared : Cert.On_compared.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_compared (hKernelIdeal := hKernelIdeal) (hReferenceIdeal := hReferenceIdeal) (hOn_compared := hOn_compared)
-- ==== On_compared.lean ====
abbrev S3x1024x2176 : Shape := ⟨3, ![3, 1024, 2176]⟩
abbrev S3x1024x1 : Shape := ⟨3, ![3, 1024, 1]⟩
abbrev S2176x3584 : Shape := ⟨2, ![2176, 3584]⟩
abbrev S3584 : Shape := ⟨1, ![3584]⟩
abbrev S3x1024x3584 : Shape := ⟨3, ![3, 1024, 3584]⟩
abbrev S_ : Shape := ⟨0, ![]⟩

class Facts : Prop where
  bitsLt_bf16_f32 : FTy.bits .bf16 < FTy.bits .f32
  bcast_S_S3584 : S_.BroadcastsInDim S3584 (![] : Fin 0 → Fin S3584.rank)
  reducesTo_S3584_S_d0 : S3584.ReducesTo [0] S_
  h_S_ : 0 < S_.numel
  bcast_S_S3x1024x3584 : S_.BroadcastsInDim S3x1024x3584 (![] : Fin 0 → Fin S3x1024x3584.rank)
  bcast_S_S3x1024x1 : S_.BroadcastsInDim S3x1024x1 (![] : Fin 0 → Fin S3x1024x1.rank)

variable [Facts]

def fn {F : FTy → Type} [FloatOps F] (main_arg0 : FVec F S3x1024x2176 .fp8e4m3) (main_arg1 : FVec F S3x1024x1 .f32) (main_arg2 : FVec F S2176x3584 .fp8e4m3) (main_arg3 : FVec F S3584 .f32) (main_arg4 : FVec F S3x1024x3584 .bf16) (main_arg5 : FVec F S3584 .bf16) : IVec S3x1024x3584 1 × IVec S3x1024x3584 1 × IVec S3x1024x1 1 :=
  let main_v0 : FVec F S3584 .f32 := (extf .f32 · bitsLt_bf16_f32) main_arg5
  let main_v1 : FVec F S3584 .f32 := Host.absf main_v0
  let main_cst : FVec F S_ .f32 := constant S_ .f32 0x7F7F0000#32
  let main_v2 : FVec F S3584 .f32 := broadcastInDim S3584 ![] bcast_S_S3584 main_cst
  let main_v3 : IVec S3584 1 := cmpf .ole main_v1 main_v2
  let main_c : IVec S_ 1 := constantI S_ 1 1#1
  let main_v4 : IVec S_ 1 := (fun x v => Host.reduce IntOp.andi x v reducesTo_S3584_S_d0 h_S_) main_v3 main_c
  let main_c_0 : IVec S_ 1 := constantI S_ 1 1#1
  let main_v5 : IVec S3x1024x3584 1 := broadcastInDim S3x1024x3584 ![] bcast_S_S3x1024x3584 main_c_0
  let main_v6 : IVec S3x1024x3584 1 := broadcastInDim S3x1024x3584 ![] bcast_S_S3x1024x3584 main_v4
  let main_v7 : IVec S3x1024x1 1 := broadcastInDim S3x1024x1 ![] bcast_S_S3x1024x1 main_v4
  (main_v5, main_v6, main_v7)
-- ==== Kernel.lean ====
abbrev S3x1024x2176 : Shape := ⟨3, ![3, 1024, 2176]⟩
abbrev S3x1024x1 : Shape := ⟨3, ![3, 1024, 1]⟩
abbrev S2176x3584 : Shape := ⟨2, ![2176, 3584]⟩
abbrev S3584 : Shape := ⟨1, ![3584]⟩
abbrev S3x1024x3584 : Shape := ⟨3, ![3, 1024, 3584]⟩
abbrev S3072x2176 : Shape := ⟨2, ![3072, 2176]⟩
abbrev S12x2x128 : Shape := ⟨3, ![12, 2, 128]⟩
abbrev S1x3584 : Shape := ⟨2, ![1, 3584]⟩
abbrev S3072x3584 : Shape := ⟨2, ![3072, 3584]⟩
abbrev S256x2176 : Shape := ⟨2, ![256, 2176]⟩
abbrev S1x2x128 : Shape := ⟨3, ![1, 2, 128]⟩
abbrev S256x3584 : Shape := ⟨2, ![256, 3584]⟩
abbrev S2x256x3584 : Shape := ⟨3, ![2, 256, 3584]⟩
abbrev S1x1x128 : Shape := ⟨3, ![1, 1, 128]⟩
abbrev S1x128 : Shape := ⟨2, ![1, 128]⟩
abbrev S128x128 : Shape := ⟨2, ![128, 128]⟩
abbrev S256x128 : Shape := ⟨2, ![256, 128]⟩
abbrev S2176x512 : Shape := ⟨2, ![2176, 512]⟩
abbrev S256x512 : Shape := ⟨2, ![256, 512]⟩
abbrev S1x256x128 : Shape := ⟨3, ![1, 256, 128]⟩
abbrev S32x128 : Shape := ⟨2, ![32, 128]⟩
abbrev S1x32x128 : Shape := ⟨3, ![1, 32, 128]⟩
abbrev S32 : Shape := ⟨1, ![32]⟩
abbrev S32x1 : Shape := ⟨2, ![32, 1]⟩

abbrev nBuf : Space → Nat
  | .hbm => 17
  | .vmem => 16
  | .smem => 0
  | _ => 0

abbrev bufTy : (tb : Table) → Fin (tcTables nBuf tb) → BufTy
  | .hbm, ⟨0, _⟩ => ⟨S3x1024x2176, .fp8e4m3⟩
  | .hbm, ⟨1, _⟩ => ⟨S3x1024x1, .f32⟩
  | .hbm, ⟨2, _⟩ => ⟨S2176x3584, .fp8e4m3⟩
  | .hbm, ⟨3, _⟩ => ⟨S3584, .f32⟩
  | .hbm, ⟨4, _⟩ => ⟨S3x1024x3584, .bf16⟩
  | .hbm, ⟨5, _⟩ => ⟨S3584, .bf16⟩
  | .hbm, ⟨6, _⟩ => ⟨S3072x2176, .fp8e4m3⟩
  | .hbm, ⟨7, _⟩ => ⟨S12x2x128, .f32⟩
  | .hbm, ⟨8, _⟩ => ⟨S1x3584, .f32⟩
  | .hbm, ⟨9, _⟩ => ⟨S3072x3584, .bf16⟩
  | .hbm, ⟨10, _⟩ => ⟨S1x3584, .bf16⟩
  | .hbm, ⟨11, _⟩ => ⟨S3072x3584, .bf16⟩
  | .hbm, ⟨12, _⟩ => ⟨S3072x3584, .fp8e4m3⟩
  | .hbm, ⟨13, _⟩ => ⟨S12x2x128, .f32⟩
  | .hbm, ⟨14, _⟩ => ⟨S3x1024x3584, .bf16⟩
  | .hbm, ⟨15, _⟩ => ⟨S3x1024x3584, .fp8e4m3⟩
  | .hbm, ⟨16, _⟩ => ⟨S3x1024x1, .f32⟩
  | .local _ .vmem, ⟨0, _⟩ => ⟨S256x2176, .fp8e4m3⟩
  | .local _ .vmem, ⟨1, _⟩ => ⟨S256x2176, .fp8e4m3⟩
  | .local _ .vmem, ⟨2, _⟩ => ⟨S1x2x128, .f32⟩
  | .local _ .vmem, ⟨3, _⟩ => ⟨S1x2x128, .f32⟩
  | .local _ .vmem, ⟨4, _⟩ => ⟨S2176x3584, .fp8e4m3⟩
  | .local _ .vmem, ⟨5, _⟩ => ⟨S1x3584, .f32⟩
  | .local _ .vmem, ⟨6, _⟩ => ⟨S256x3584, .bf16⟩
  | .local _ .vmem, ⟨7, _⟩ => ⟨S256x3584, .bf16⟩
  | .local _ .vmem, ⟨8, _⟩ => ⟨S1x3584, .bf16⟩
  | .local _ .vmem, ⟨9, _⟩ => ⟨S256x3584, .bf16⟩
  | .local _ .vmem, ⟨10, _⟩ => ⟨S256x3584, .bf16⟩
  | .local _ .vmem, ⟨11, _⟩ => ⟨S256x3584, .fp8e4m3⟩
  | .local _ .vmem, ⟨12, _⟩ => ⟨S256x3584, .fp8e4m3⟩
  | .local _ .vmem, ⟨13, _⟩ => ⟨S1x2x128, .f32⟩
  | .local _ .vmem, ⟨14, _⟩ => ⟨S1x2x128, .f32⟩
  | .local _ .vmem, ⟨15, _⟩ => ⟨S2x256x3584, .bf16⟩
  | _, _ => ⟨S3x1024x2176, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 3 → Nat :=
  let arg0 : BitVec 32 := BitVec.ofNat 32 (i 0).val
  let c2_i32 : BitVec 32 := 2#32
  let v0 : BitVec 32 := Scalar.remsi arg0 c2_i32
  let v41 : Index := Scalar.indexCast v0
  let c0_17 : Index := 0#32
  let c0_18 : Index := 0#32
  ![v41.toNat, 0, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v57 : Index := Scalar.indexCast v0
  let c0_24 : Index := 0#32
  let c128_25 : Index := 128#32
  ![v57.toNat, 0, 128]
def k0_off3 (i : grid0.Coords) : Fin 3 → Nat :=
  let arg0 : BitVec 32 := BitVec.ofNat 32 (i 0).val
  let c2_i32 : BitVec 32 := 2#32
  let v0 : BitVec 32 := Scalar.remsi arg0 c2_i32
  let v73 : Index := Scalar.indexCast v0
  let c0_31 : Index := 0#32
  let c256_32 : Index := 256#32
  ![v73.toNat, 0, 256]
def k0_off4 (i : grid0.Coords) : Fin 3 → Nat :=
  let arg0 : BitVec 32 := BitVec.ofNat 32 (i 0).val
  let c2_i32 : BitVec 32 := 2#32
  let v0 : BitVec 32 := Scalar.remsi arg0 c2_i32
  let v89 : Index := Scalar.indexCast v0
  let c0_38 : Index := 0#32
  let c384_39 : Index := 384#32
  ![v89.toNat, 0, 384]
def k0_off5 (i : grid0.Coords) : Fin 3 → Nat :=
  let arg0 : BitVec 32 := BitVec.ofNat 32 (i 0).val
  let c2_i32 : BitVec 32 := 2#32
  let v0 : BitVec 32 := Scalar.remsi arg0 c2_i32
  let v109 : Index := Scalar.indexCast v0
  let c0_50 : Index := 0#32
  let c512_51 : Index := 512#32
  ![v109.toNat, 0, 512]
def k0_off6 (i : grid0.Coords) : Fin 3 → Nat :=
  let arg0 : BitVec 32 := BitVec.ofNat 32 (i 0).val
  let c2_i32 : BitVec 32 := 2#32
  let v0 : BitVec 32 := Scalar.remsi arg0 c2_i32
  let v125 : Index := Scalar.indexCast v0
  let c0_57 : Index := 0#32
  let c640_58 : Index := 640#32
  ![v125.toNat, 0, 640]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v141 : Index := Scalar.indexCast v0
  let c0_64 : Index := 0#32
  let c768_65 : Index := 768#32
  ![v141.toNat, 0, 768]
def k0_off8 (i : grid0.Coords) : Fin 3 → Nat :=
  let arg0 : BitVec 32 := BitVec.ofNat 32 (i 0).val
  let c2_i32 : BitVec 32 := 2#32
  let v0 : BitVec 32 := Scalar.remsi arg0 c2_i32
  let v157 : Index := Scalar.indexCast v0
  let c0_71 : Index := 0#32
  let c896_72 : Index := 896#32
  ![v157.toNat, 0, 896]
def k0_off9 (i : grid0.Coords) : Fin 3 → Nat :=
  let arg0 : BitVec 32 := BitVec.ofNat 32 (i 0).val
  let c2_i32 : BitVec 32 := 2#32
  let v0 : BitVec 32 := Scalar.remsi arg0 c2_i32
  let v177 : Index := Scalar.indexCast v0
  let c0_83 : Index := 0#32
  let c1024_84 : Index := 1024#32
  ![v177.toNat, 0, 1024]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v193 : Index := Scalar.indexCast v0
  let c0_90 : Index := 0#32
  let c1152_91 : Index := 1152#32
  ![v193.toNat, 0, 1152]
def k0_off11 (i : grid0.Coords) : Fin 3 → Nat :=
  let arg0 : BitVec 32 := BitVec.ofNat 32 (i 0).val
  let c2_i32 : BitVec 32 := 2#32
  let v0 : BitVec 32 := Scalar.remsi arg0 c2_i32
  let v209 : Index := Scalar.indexCast v0
  let c0_97 : Index := 0#32
  let c1280_98 : Index := 1280#32
  ![v209.toNat, 0, 1280]
def k0_off12 (i : grid0.Coords) : Fin 3 → Nat :=
  let arg0 : BitVec 32 := BitVec.ofNat 32 (i 0).val
  let c2_i32 : BitVec 32 := 2#32
  let v0 : BitVec 32 := Scalar.remsi arg0 c2_i32
  let v225 : Index := Scalar.indexCast v0
  let c0_104 : Index := 0#32
  let c1408_105 : Index := 1408#32
  ![v225.toNat, 0, 1408]
def k0_off13 (i : grid0.Coords) : Fin 3 → Nat :=
  let arg0 : BitVec 32 := BitVec.ofNat 32 (i 0).val
  let c2_i32 : BitVec 32 := 2#32
  let v0 : BitVec 32 := Scalar.remsi arg0 c2_i32
  let v245 : Index := Scalar.indexCast v0
  let c0_116 : Index := 0#32
  let c1536_117 : Index := 1536#32
  ![v245.toNat, 0, 1536]
def k0_off14 (i : grid0.Coords) : Fin 3 → Nat :=
  let arg0 : BitVec 32 := BitVec.ofNat 32 (i 0).val
  let c2_i32 : BitVec 32 := 2#32
  let v0 : BitVec 32 := Scalar.remsi arg0 c2_i32
  let v261 : Index := Scalar.indexCast v0
  let c0_123 : Index := 0#32
  let c1664_124 : Index := 1664#32
  ![v261.toNat, 0, 1664]
def k0_off15 (i : grid0.Coords) : Fin 3 → Nat :=
  let arg0 : BitVec 32 := BitVec.ofNat 32 (i 0).val
  let c2_i32 : BitVec 32 := 2#32
  let v0 : BitVec 32 := Scalar.remsi arg0 c2_i32
  let v277 : Index := Scalar.indexCast v0
  let c0_130 : Index := 0#32
  let c1792_131 : Index := 1792#32
  ![v277.toNat, 0, 1792]
def k0_off16 (i : grid0.Coords) : Fin 3 → Nat :=
  let arg0 : BitVec 32 := BitVec.ofNat 32 (i 0).val
  let c2_i32 : BitVec 32 := 2#32
  let v0 : BitVec 32 := Scalar.remsi arg0 c2_i32
  let v293 : Index := Scalar.indexCast v0
  let c0_137 : Index := 0#32
  let c1920_138 : Index := 1920#32
  ![v293.toNat, 0, 1920]
def k0_off17 (i : grid0.Coords) : Fin 3 → Nat :=
  let arg0 : BitVec 32 := BitVec.ofNat 32 (i 0).val
  let c2_i32 : BitVec 32 := 2#32
  let v0 : BitVec 32 := Scalar.remsi arg0 c2_i32
  let v313 : Index := Scalar.indexCast v0
  let c0_149 : Index := 0#32
  let c2048_150 : Index := 2048#32
  ![v313.toNat, 0, 2048]
def k0_off18 (i : grid0.Coords) : Fin 3 → Nat :=
  let arg0 : BitVec 32 := BitVec.ofNat 32 (i 0).val
  let c2_i32 : BitVec 32 := 2#32
  let v0 : BitVec 32 := Scalar.remsi arg0 c2_i32
  let v329 : Index := Scalar.indexCast v0
  let c0_156 : Index := 0#32
  let c2176_157 : Index := 2176#32
  ![v329.toNat, 0, 2176]
def k0_off19 (i : grid0.Coords) : Fin 3 → Nat :=
  let arg0 : BitVec 32 := BitVec.ofNat 32 (i 0).val
  let c2_i32 : BitVec 32 := 2#32
  let v0 : BitVec 32 := Scalar.remsi arg0 c2_i32
  let v345 : Index := Scalar.indexCast v0
  let c0_163 : Index := 0#32
  let c2304_164 : Index := 2304#32
  ![v345.toNat, 0, 2304]
def k0_off20 (i : grid0.Coords) : Fin 3 → Nat :=
  let arg0 : BitVec 32 := BitVec.ofNat 32 (i 0).val
  let c2_i32 : BitVec 32 := 2#32
  let v0 : BitVec 32 := Scalar.remsi arg0 c2_i32
  let v361 : Index := Scalar.indexCast v0
  let c0_170 : Index := 0#32
  let c2432_171 : Index := 2432#32
  ![v361.toNat, 0, 2432]
def k0_off21 (i : grid0.Coords) : Fin 3 → Nat :=
  let arg0 : BitVec 32 := BitVec.ofNat 32 (i 0).val
  let c2_i32 : BitVec 32 := 2#32
  let v0 : BitVec 32 := Scalar.remsi arg0 c2_i32
  let v381 : Index := Scalar.indexCast v0
  let c0_182 : Index := 0#32
  let c2560_183 : Index := 2560#32
  ![v381.toNat, 0, 2560]
def k0_off22 (i : grid0.Coords) : Fin 3 → Nat :=
  let arg0 : BitVec 32 := BitVec.ofNat 32 (i 0).val
  let c2_i32 : BitVec 32 := 2#32
  let v0 : BitVec 32 := Scalar.remsi arg0 c2_i32
  let v397 : Index := Scalar.indexCast v0
  let c0_189 : Index := 0#32
  let c2688_190 : Index := 2688#32
  ![v397.toNat, 0, 2688]
def k0_off23 (i : grid0.Coords) : Fin 3 → Nat :=
  let arg0 : BitVec 32 := BitVec.ofNat 32 (i 0).val
  let c2_i32 : BitVec 32 := 2#32
  let v0 : BitVec 32 := Scalar.remsi arg0 c2_i32
  let v413 : Index := Scalar.indexCast v0
  let c0_196 : Index := 0#32
  let c2816_197 : Index := 2816#32
  ![v413.toNat, 0, 2816]
def k0_off24 (i : grid0.Coords) : Fin 3 → Nat :=
  let arg0 : BitVec 32 := BitVec.ofNat 32 (i 0).val
  let c2_i32 : BitVec 32 := 2#32
  let v0 : BitVec 32 := Scalar.remsi arg0 c2_i32
  let v429 : Index := Scalar.indexCast v0
  let c0_203 : Index := 0#32
  let c2944_204 : Index := 2944#32
  ![v429.toNat, 0, 2944]
def k0_off25 (i : grid0.Coords) : Fin 3 → Nat :=
  let arg0 : BitVec 32 := BitVec.ofNat 32 (i 0).val
  let c2_i32 : BitVec 32 := 2#32
  let v0 : BitVec 32 := Scalar.remsi arg0 c2_i32
  let v449 : Index := Scalar.indexCast v0
  let c0_215 : Index := 0#32
  let c3072_216 : Index := 3072#32
  ![v449.toNat, 0, 3072]
def k0_off26 (i : grid0.Coords) : Fin 3 → Nat :=
  let arg0 : BitVec 32 := BitVec.ofNat 32 (i 0).val
  let c2_i32 : BitVec 32 := 2#32
  let v0 : BitVec 32 := Scalar.remsi arg0 c2_i32
  let v465 : Index := Scalar.indexCast v0
  let c0_222 : Index := 0#32
  let c3200_223 : Index := 3200#32
  ![v465.toNat, 0, 3200]
def k0_off27 (i : grid0.Coords) : Fin 3 → Nat :=
  let arg0 : BitVec 32 := BitVec.ofNat 32 (i 0).val
  let c2_i32 : BitVec 32 := 2#32
  let v0 : BitVec 32 := Scalar.remsi arg0 c2_i32
  let v481 : Index := Scalar.indexCast v0
  let c0_229 : Index := 0#32
  let c3328_230 : Index := 3328#32
  ![v481.toNat, 0, 3328]
def k0_off28 (i : grid0.Coords) : Fin 3 → Nat :=
  let arg0 : BitVec 32 := BitVec.ofNat 32 (i 0).val
  let c2_i32 : BitVec 32 := 2#32
  let v0 : BitVec 32 := Scalar.remsi arg0 c2_i32
  let v497 : Index := Scalar.indexCast v0
  let c0_236 : Index := 0#32
  let c3456_237 : Index := 3456#32
  ![v497.toNat, 0, 3456]
def k0_cond2 (i : grid0.Coords) : BitVec 1 :=
  let arg0 : BitVec 32 := BitVec.ofNat 32 (i 0).val
  let c0_i32_1 : BitVec 32 := 0#32
  let v4 : BitVec 1 := Scalar.cmpi .sgt arg0 c0_i32_1
  let c12_i32 : BitVec 32 := 12#32
  let v5 : BitVec 1 := Scalar.cmpi .slt arg0 c12_i32
  let v6 : BitVec 1 := Scalar.andi v4 v5
  let v7 : BitVec 32 := Scalar.extui v6
  let c0_i32_2 : BitVec 32 := 0#32
  let v8 : BitVec 1 := Scalar.cmpi .ne v7 c0_i32_2
  v8

def k0_off29 (i : grid0.Coords) : Fin 3 → Nat :=
  let arg0 : BitVec 32 := BitVec.ofNat 32 (i 0).val
  let c2_i32 : BitVec 32 := 2#32
  let v0 : BitVec 32 := Scalar.remsi arg0 c2_i32
  let v41 : Index := Scalar.indexCast v0
  let c0_17 : Index := 0#32
  let c0_18 : Index := 0#32
  ![v41.toNat, 0, 0]
def k0_off30 (i : grid0.Coords) : Fin 3 → Nat :=
  let arg0 : BitVec 32 := BitVec.ofNat 32 (i 0).val
  let c2_i32 : BitVec 32 := 2#32
  let v0 : BitVec 32 := Scalar.remsi arg0 c2_i32
  let v57 : Index := Scalar.indexCast v0
  let c0_24 : Index := 0#32
  let c128_25 : Index := 128#32
  ![v57.toNat, 0, 128]
def k0_off31 (i : grid0.Coords) : Fin 3 → Nat :=
  let arg0 : BitVec 32 := BitVec.ofNat 32 (i 0).val
  let c2_i32 : BitVec 32 := 2#32
  let v0 : BitVec 32 := Scalar.remsi arg0 c2_i32
  let v73 : Index := Scalar.indexCast v0
  let c0_31 : Index := 0#32
  let c256_32 : Index := 256#32
  ![v73.toNat, 0, 256]
def k0_off32 (i : grid0.Coords) : Fin 3 → Nat :=
  let arg0 : BitVec 32 := BitVec.ofNat 32 (i 0).val
  let c2_i32 : BitVec 32 := 2#32
  let v0 : BitVec 32 := Scalar.remsi arg0 c2_i32
  let v89 : Index := Scalar.indexCast v0
  let c0_38 : Index := 0#32
  let c384_39 : Index := 384#32
  ![v89.toNat, 0, 384]
def k0_off33 (i : grid0.Coords) : Fin 3 → Nat :=
  let arg0 : BitVec 32 := BitVec.ofNat 32 (i 0).val
  let c2_i32 : BitVec 32 := 2#32
  let v0 : BitVec 32 := Scalar.remsi arg0 c2_i32
  let v109 : Index := Scalar.indexCast v0
  let c0_50 : Index := 0#32
  let c512_51 : Index := 512#32
  ![v109.toNat, 0, 512]
def k0_off34 (i : grid0.Coords) : Fin 3 → Nat :=
  let arg0 : BitVec 32 := BitVec.ofNat 32 (i 0).val
  let c2_i32 : BitVec 32 := 2#32
  let v0 : BitVec 32 := Scalar.remsi arg0 c2_i32
  let v125 : Index := Scalar.indexCast v0
  let c0_57 : Index := 0#32
  let c640_58 : Index := 640#32
  ![v125.toNat, 0, 640]
def k0_off35 (i : grid0.Coords) : Fin 3 → Nat :=
  let arg0 : BitVec 32 := BitVec.ofNat 32 (i 0).val
  let c2_i32 : BitVec 32 := 2#32
  let v0 : BitVec 32 := Scalar.remsi arg0 c2_i32
  let v141 : Index := Scalar.indexCast v0
  let c0_64 : Index := 0#32
  let c768_65 : Index := 768#32
  ![v141.toNat, 0, 768]
def k0_off36 (i : grid0.Coords) : Fin 3 → Nat :=
  let arg0 : BitVec 32 := BitVec.ofNat 32 (i 0).val
  let c2_i32 : BitVec 32 := 2#32
  let v0 : BitVec 32 := Scalar.remsi arg0 c2_i32
  let v157 : Index := Scalar.indexCast v0
  let c0_71 : Index := 0#32
  let c896_72 : Index := 896#32
  ![v157.toNat, 0, 896]
def k0_off37 (i : grid0.Coords) : Fin 3 → Nat :=
  let arg0 : BitVec 32 := BitVec.ofNat 32 (i 0).val
  let c2_i32 : BitVec 32 := 2#32
  let v0 : BitVec 32 := Scalar.remsi arg0 c2_i32
  let v177 : Index := Scalar.indexCast v0
  let c0_83 : Index := 0#32
  let c1024_84 : Index := 1024#32
  ![v177.toNat, 0, 1024]
def k0_off38 (i : grid0.Coords) : Fin 3 → Nat :=
  let arg0 : BitVec 32 := BitVec.ofNat 32 (i 0).val
  let c2_i32 : BitVec 32 := 2#32
  let v0 : BitVec 32 := Scalar.remsi arg0 c2_i32
  let v193 : Index := Scalar.indexCast v0
  let c0_90 : Index := 0#32
  let c1152_91 : Index := 1152#32
  ![v193.toNat, 0, 1152]
def k0_off39 (i : grid0.Coords) : Fin 3 → Nat :=
  let arg0 : BitVec 32 := BitVec.ofNat 32 (i 0).val
  let c2_i32 : BitVec 32 := 2#32
  let v0 : BitVec 32 := Scalar.remsi arg0 c2_i32
  let v209 : Index := Scalar.indexCast v0
  let c0_97 : Index := 0#32
  let c1280_98 : Index := 1280#32
  ![v209.toNat, 0, 1280]
def k0_off40 (i : grid0.Coords) : Fin 3 → Nat :=
  let arg0 : BitVec 32 := BitVec.ofNat 32 (i 0).val
  let c2_i32 : BitVec 32 := 2#32
  let v0 : BitVec 32 := Scalar.remsi arg0 c2_i32
  let v225 : Index := Scalar.indexCast v0
  let c0_104 : Index := 0#32
  let c1408_105 : Index := 1408#32
  ![v225.toNat, 0, 1408]
def k0_off41 (i : grid0.Coords) : Fin 3 → Nat :=
  let arg0 : BitVec 32 := BitVec.ofNat 32 (i 0).val
  let c2_i32 : BitVec 32 := 2#32
  let v0 : BitVec 32 := Scalar.remsi arg0 c2_i32
  let v245 : Index := Scalar.indexCast v0
  let c0_116 : Index := 0#32
  let c1536_117 : Index := 1536#32
  ![v245.toNat, 0, 1536]
def k0_off42 (i : grid0.Coords) : Fin 3 → Nat :=
  let arg0 : BitVec 32 := BitVec.ofNat 32 (i 0).val
  let c2_i32 : BitVec 32 := 2#32
  let v0 : BitVec 32 := Scalar.remsi arg0 c2_i32
  let v261 : Index := Scalar.indexCast v0
  let c0_123 : Index := 0#32
  let c1664_124 : Index := 1664#32
  ![v261.toNat, 0, 1664]
def k0_off43 (i : grid0.Coords) : Fin 3 → Nat :=
  let arg0 : BitVec 32 := BitVec.ofNat 32 (i 0).val
  let c2_i32 : BitVec 32 := 2#32
  let v0 : BitVec 32 := Scalar.remsi arg0 c2_i32
  let v277 : Index := Scalar.indexCast v0
  let c0_130 : Index := 0#32
  let c1792_131 : Index := 1792#32
  ![v277.toNat, 0, 1792]
def k0_off44 (i : grid0.Coords) : Fin 3 → Nat :=
  let arg0 : BitVec 32 := BitVec.ofNat 32 (i 0).val
  let c2_i32 : BitVec 32 := 2#32
  let v0 : BitVec 32 := Scalar.remsi arg0 c2_i32
  let v293 : Index := Scalar.indexCast v0
  let c0_137 : Index := 0#32
  let c1920_138 : Index := 1920#32
  ![v293.toNat, 0, 1920]
def k0_off45 (i : grid0.Coords) : Fin 3 → Nat :=
  let arg0 : BitVec 32 := BitVec.ofNat 32 (i 0).val
  let c2_i32 : BitVec 32 := 2#32
  let v0 : BitVec 32 := Scalar.remsi arg0 c2_i32
  let v313 : Index := Scalar.indexCast v0
  let c0_149 : Index := 0#32
  let c2048_150 : Index := 2048#32
  ![v313.toNat, 0, 2048]
def k0_off46 (i : grid0.Coords) : Fin 3 → Nat :=
  let arg0 : BitVec 32 := BitVec.ofNat 32 (i 0).val
  let c2_i32 : BitVec 32 := 2#32
  let v0 : BitVec 32 := Scalar.remsi arg0 c2_i32
  let v329 : Index := Scalar.indexCast v0
  let c0_156 : Index := 0#32
  let c2176_157 : Index := 2176#32
  ![v329.toNat, 0, 2176]
def k0_off47 (i : grid0.Coords) : Fin 3 → Nat :=
  let arg0 : BitVec 32 := BitVec.ofNat 32 (i 0).val
  let c2_i32 : BitVec 32 := 2#32
  let v0 : BitVec 32 := Scalar.remsi arg0 c2_i32
  let v345 : Index := Scalar.indexCast v0
  let c0_163 : Index := 0#32
  let c2304_164 : Index := 2304#32
  ![v345.toNat, 0, 2304]
def k0_off48 (i : grid0.Coords) : Fin 3 → Nat :=
  let arg0 : BitVec 32 := BitVec.ofNat 32 (i 0).val
  let c2_i32 : BitVec 32 := 2#32
  let v0 : BitVec 32 := Scalar.remsi arg0 c2_i32
  let v361 : Index := Scalar.indexCast v0
  let c0_170 : Index := 0#32
  let c2432_171 : Index := 2432#32
  ![v361.toNat, 0, 2432]
def k0_off49 (i : grid0.Coords) : Fin 3 → Nat :=
  let arg0 : BitVec 32 := BitVec.ofNat 32 (i 0).val
  let c2_i32 : BitVec 32 := 2#32
  let v0 : BitVec 32 := Scalar.remsi arg0 c2_i32
  let v381 : Index := Scalar.indexCast v0
  let c0_182 : Index := 0#32
  let c2560_183 : Index := 2560#32
  ![v381.toNat, 0, 2560]
def k0_off50 (i : grid0.Coords) : Fin 3 → Nat :=
  let arg0 : BitVec 32 := BitVec.ofNat 32 (i 0).val
  let c2_i32 : BitVec 32 := 2#32
  let v0 : BitVec 32 := Scalar.remsi arg0 c2_i32
  let v397 : Index := Scalar.indexCast v0
  let c0_189 : Index := 0#32
  let c2688_190 : Index := 2688#32
  ![v397.toNat, 0, 2688]
def k0_off51 (i : grid0.Coords) : Fin 3 → Nat :=
  let arg0 : BitVec 32 := BitVec.ofNat 32 (i 0).val
  let c2_i32 : BitVec 32 := 2#32
  let v0 : BitVec 32 := Scalar.remsi arg0 c2_i32
  let v413 : Index := Scalar.indexCast v0
  let c0_196 : Index := 0#32
  let c2816_197 : Index := 2816#32
  ![v413.toNat, 0, 2816]
def k0_off52 (i : grid0.Coords) : Fin 3 → Nat :=
  let arg0 : BitVec 32 := BitVec.ofNat 32 (i 0).val
  let c2_i32 : BitVec 32 := 2#32
  let v0 : BitVec 32 := Scalar.remsi arg0 c2_i32
  let v429 : Index := Scalar.indexCast v0
  let c0_203 : Index := 0#32
  let c2944_204 : Index := 2944#32
  ![v429.toNat, 0, 2944]
def k0_off53 (i : grid0.Coords) : Fin 3 → Nat :=
  let arg0 : BitVec 32 := BitVec.ofNat 32 (i 0).val
  let c2_i32 : BitVec 32 := 2#32
  let v0 : BitVec 32 := Scalar.remsi arg0 c2_i32
  let v449 : Index := Scalar.indexCast v0
  let c0_215 : Index := 0#32
  let c3072_216 : Index := 3072#32
  ![v449.toNat, 0, 3072]
def k0_off54 (i : grid0.Coords) : Fin 3 → Nat :=
  let arg0 : BitVec 32 := BitVec.ofNat 32 (i 0).val
  let c2_i32 : BitVec 32 := 2#32
  let v0 : BitVec 32 := Scalar.remsi arg0 c2_i32
  let v465 : Index := Scalar.indexCast v0
  let c0_222 : Index := 0#32
  let c3200_223 : Index := 3200#32
  ![v465.toNat, 0, 3200]
def k0_off55 (i : grid0.Coords) : Fin 3 → Nat :=
  let arg0 : BitVec 32 := BitVec.ofNat 32 (i 0).val
  let c2_i32 : BitVec 32 := 2#32
  let v0 : BitVec 32 := Scalar.remsi arg0 c2_i32
  let v481 : Index := Scalar.indexCast v0
  let c0_229 : Index := 0#32
  let c3328_230 : Index := 3328#32
  ![v481.toNat, 0, 3328]
def k0_off56 (i : grid0.Coords) : Fin 3 → Nat :=
  let arg0 : BitVec 32 := BitVec.ofNat 32 (i 0).val
  let c2_i32 : BitVec 32 := 2#32
  let v0 : BitVec 32 := Scalar.remsi arg0 c2_i32
  let v497 : Index := Scalar.indexCast v0
  let c0_236 : Index := 0#32
  let c3456_237 : Index := 3456#32
  ![v497.toNat, 0, 3456]
def k0_off57 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v504 : Index := Scalar.indexCast v501
  let c0_240 : Index := 0#32
  let c0_241 : Index := 0#32
  ![v504.toNat, 0, 0]
def k0_off58 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v517 : Index := Scalar.indexCast v501
  let c0_244 : Index := 0#32
  let c128_245 : Index := 128#32
  ![v517.toNat, 0, 128]
def k0_off59 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v530 : Index := Scalar.indexCast v501
  let c0_248 : Index := 0#32
  let c256_249 : Index := 256#32
  ![v530.toNat, 0, 256]
def k0_off60 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v543 : Index := Scalar.indexCast v501
  let c0_252 : Index := 0#32
  let c384_253 : Index := 384#32
  ![v543.toNat, 0, 384]
def k0_off61 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v556 : Index := Scalar.indexCast v501
  let c0_256 : Index := 0#32
  let c512_257 : Index := 512#32
  ![v556.toNat, 0, 512]
def k0_off62 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v569 : Index := Scalar.indexCast v501
  let c0_260 : Index := 0#32
  let c640_261 : Index := 640#32
  ![v569.toNat, 0, 640]
def k0_off63 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v582 : Index := Scalar.indexCast v501
  let c0_264 : Index := 0#32
  let c768_265 : Index := 768#32
  ![v582.toNat, 0, 768]
def k0_off64 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v595 : Index := Scalar.indexCast v501
  let c0_268 : Index := 0#32
  let c896_269 : Index := 896#32
  ![v595.toNat, 0, 896]
def k0_off65 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v608 : Index := Scalar.indexCast v501
  let c0_272 : Index := 0#32
  let c1024_273 : Index := 1024#32
  ![v608.toNat, 0, 1024]
def k0_off66 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v621 : Index := Scalar.indexCast v501
  let c0_276 : Index := 0#32
  let c1152_277 : Index := 1152#32
  ![v621.toNat, 0, 1152]
def k0_off67 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v634 : Index := Scalar.indexCast v501
  let c0_280 : Index := 0#32
  let c1280_281 : Index := 1280#32
  ![v634.toNat, 0, 1280]
def k0_off68 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v647 : Index := Scalar.indexCast v501
  let c0_284 : Index := 0#32
  let c1408_285 : Index := 1408#32
  ![v647.toNat, 0, 1408]
def k0_off69 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v660 : Index := Scalar.indexCast v501
  let c0_288 : Index := 0#32
  let c1536_289 : Index := 1536#32
  ![v660.toNat, 0, 1536]
def k0_off70 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v673 : Index := Scalar.indexCast v501
  let c0_292 : Index := 0#32
  let c1664_293 : Index := 1664#32
  ![v673.toNat, 0, 1664]
def k0_off71 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v686 : Index := Scalar.indexCast v501
  let c0_296 : Index := 0#32
  let c1792_297 : Index := 1792#32
  ![v686.toNat, 0, 1792]
def k0_off72 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v699 : Index := Scalar.indexCast v501
  let c0_300 : Index := 0#32
  let c1920_301 : Index := 1920#32
  ![v699.toNat, 0, 1920]
def k0_off73 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v712 : Index := Scalar.indexCast v501
  let c0_304 : Index := 0#32
  let c2048_305 : Index := 2048#32
  ![v712.toNat, 0, 2048]
def k0_off74 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v725 : Index := Scalar.indexCast v501
  let c0_308 : Index := 0#32
  let c2176_309 : Index := 2176#32
  ![v725.toNat, 0, 2176]
def k0_off75 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v738 : Index := Scalar.indexCast v501
  let c0_312 : Index := 0#32
  let c2304_313 : Index := 2304#32
  ![v738.toNat, 0, 2304]
def k0_off76 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v751 : Index := Scalar.indexCast v501
  let c0_316 : Index := 0#32
  let c2432_317 : Index := 2432#32
  ![v751.toNat, 0, 2432]
def k0_off77 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v764 : Index := Scalar.indexCast v501
  let c0_320 : Index := 0#32
  let c2560_321 : Index := 2560#32
  ![v764.toNat, 0, 2560]
def k0_off78 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v777 : Index := Scalar.indexCast v501
  let c0_324 : Index := 0#32
  let c2688_325 : Index := 2688#32
  ![v777.toNat, 0, 2688]
def k0_off79 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v790 : Index := Scalar.indexCast v501
  let c0_328 : Index := 0#32
  let c2816_329 : Index := 2816#32
  ![v790.toNat, 0, 2816]
def k0_off80 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v803 : Index := Scalar.indexCast v501
  let c0_332 : Index := 0#32
  let c2944_333 : Index := 2944#32
  ![v803.toNat, 0, 2944]
def k0_off81 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v816 : Index := Scalar.indexCast v501
  let c0_336 : Index := 0#32
  let c3072_337 : Index := 3072#32
  ![v816.toNat, 0, 3072]
def k0_off82 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v829 : Index := Scalar.indexCast v501
  let c0_340 : Index := 0#32
  let c3200_341 : Index := 3200#32
  ![v829.toNat, 0, 3200]
def k0_off83 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v842 : Index := Scalar.indexCast v501
  let c0_344 : Index := 0#32
  let c3328_345 : Index := 3328#32
  ![v842.toNat, 0, 3328]
def k0_off84 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v855 : Index := Scalar.indexCast v501
  let c0_348 : Index := 0#32
  let c3456_349 : Index := 3456#32
  ![v855.toNat, 0, 3456]
def k0_off85 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1410 : Index := Scalar.indexCast v501
  let c32 : Index := 32#32
  let c0_599 : Index := 0#32
  ![v1410.toNat, 32, 0]
def k0_off86 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1423 : Index := Scalar.indexCast v501
  let c32_602 : Index := 32#32
  let c128_603 : Index := 128#32
  ![v1423.toNat, 32, 128]
def k0_off87 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1436 : Index := Scalar.indexCast v501
  let c32_606 : Index := 32#32
  let c256_607 : Index := 256#32
  ![v1436.toNat, 32, 256]
def k0_off88 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1449 : Index := Scalar.indexCast v501
  let c32_610 : Index := 32#32
  let c384_611 : Index := 384#32
  ![v1449.toNat, 32, 384]
def k0_off89 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1462 : Index := Scalar.indexCast v501
  let c32_614 : Index := 32#32
  let c512_615 : Index := 512#32
  ![v1462.toNat, 32, 512]
def k0_off90 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1475 : Index := Scalar.indexCast v501
  let c32_618 : Index := 32#32
  let c640_619 : Index := 640#32
  ![v1475.toNat, 32, 640]
def k0_off91 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1488 : Index := Scalar.indexCast v501
  let c32_622 : Index := 32#32
  let c768_623 : Index := 768#32
  ![v1488.toNat, 32, 768]
def k0_off92 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1501 : Index := Scalar.indexCast v501
  let c32_626 : Index := 32#32
  let c896_627 : Index := 896#32
  ![v1501.toNat, 32, 896]
def k0_off93 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1514 : Index := Scalar.indexCast v501
  let c32_630 : Index := 32#32
  let c1024_631 : Index := 1024#32
  ![v1514.toNat, 32, 1024]
def k0_off94 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1527 : Index := Scalar.indexCast v501
  let c32_634 : Index := 32#32
  let c1152_635 : Index := 1152#32
  ![v1527.toNat, 32, 1152]
def k0_off95 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1540 : Index := Scalar.indexCast v501
  let c32_638 : Index := 32#32
  let c1280_639 : Index := 1280#32
  ![v1540.toNat, 32, 1280]
def k0_off96 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1553 : Index := Scalar.indexCast v501
  let c32_642 : Index := 32#32
  let c1408_643 : Index := 1408#32
  ![v1553.toNat, 32, 1408]
def k0_off97 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1566 : Index := Scalar.indexCast v501
  let c32_646 : Index := 32#32
  let c1536_647 : Index := 1536#32
  ![v1566.toNat, 32, 1536]
def k0_off98 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1579 : Index := Scalar.indexCast v501
  let c32_650 : Index := 32#32
  let c1664_651 : Index := 1664#32
  ![v1579.toNat, 32, 1664]
def k0_off99 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1592 : Index := Scalar.indexCast v501
  let c32_654 : Index := 32#32
  let c1792_655 : Index := 1792#32
  ![v1592.toNat, 32, 1792]
def k0_off100 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1605 : Index := Scalar.indexCast v501
  let c32_658 : Index := 32#32
  let c1920_659 : Index := 1920#32
  ![v1605.toNat, 32, 1920]
def k0_off101 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1618 : Index := Scalar.indexCast v501
  let c32_662 : Index := 32#32
  let c2048_663 : Index := 2048#32
  ![v1618.toNat, 32, 2048]
def k0_off102 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1631 : Index := Scalar.indexCast v501
  let c32_666 : Index := 32#32
  let c2176_667 : Index := 2176#32
  ![v1631.toNat, 32, 2176]
def k0_off103 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1644 : Index := Scalar.indexCast v501
  let c32_670 : Index := 32#32
  let c2304_671 : Index := 2304#32
  ![v1644.toNat, 32, 2304]
def k0_off104 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1657 : Index := Scalar.indexCast v501
  let c32_674 : Index := 32#32
  let c2432_675 : Index := 2432#32
  ![v1657.toNat, 32, 2432]
def k0_off105 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1670 : Index := Scalar.indexCast v501
  let c32_678 : Index := 32#32
  let c2560_679 : Index := 2560#32
  ![v1670.toNat, 32, 2560]
def k0_off106 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1683 : Index := Scalar.indexCast v501
  let c32_682 : Index := 32#32
  let c2688_683 : Index := 2688#32
  ![v1683.toNat, 32, 2688]
def k0_off107 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1696 : Index := Scalar.indexCast v501
  let c32_686 : Index := 32#32
  let c2816_687 : Index := 2816#32
  ![v1696.toNat, 32, 2816]
def k0_off108 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1709 : Index := Scalar.indexCast v501
  let c32_690 : Index := 32#32
  let c2944_691 : Index := 2944#32
  ![v1709.toNat, 32, 2944]
def k0_off109 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1722 : Index := Scalar.indexCast v501
  let c32_694 : Index := 32#32
  let c3072_695 : Index := 3072#32
  ![v1722.toNat, 32, 3072]
def k0_off110 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1735 : Index := Scalar.indexCast v501
  let c32_698 : Index := 32#32
  let c3200_699 : Index := 3200#32
  ![v1735.toNat, 32, 3200]
def k0_off111 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1748 : Index := Scalar.indexCast v501
  let c32_702 : Index := 32#32
  let c3328_703 : Index := 3328#32
  ![v1748.toNat, 32, 3328]
def k0_off112 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v1761 : Index := Scalar.indexCast v501
  let c32_706 : Index := 32#32
  let c3456_707 : Index := 3456#32
  ![v1761.toNat, 32, 3456]
def k0_off113 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2316 : Index := Scalar.indexCast v501
  let c64 : Index := 64#32
  let c0_966 : Index := 0#32
  ![v2316.toNat, 64, 0]
def k0_off114 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2329 : Index := Scalar.indexCast v501
  let c64_969 : Index := 64#32
  let c128_970 : Index := 128#32
  ![v2329.toNat, 64, 128]
def k0_off115 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2342 : Index := Scalar.indexCast v501
  let c64_973 : Index := 64#32
  let c256_974 : Index := 256#32
  ![v2342.toNat, 64, 256]
def k0_off116 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2355 : Index := Scalar.indexCast v501
  let c64_977 : Index := 64#32
  let c384_978 : Index := 384#32
  ![v2355.toNat, 64, 384]
def k0_off117 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2368 : Index := Scalar.indexCast v501
  let c64_981 : Index := 64#32
  let c512_982 : Index := 512#32
  ![v2368.toNat, 64, 512]
def k0_off118 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2381 : Index := Scalar.indexCast v501
  let c64_985 : Index := 64#32
  let c640_986 : Index := 640#32
  ![v2381.toNat, 64, 640]
def k0_off119 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2394 : Index := Scalar.indexCast v501
  let c64_989 : Index := 64#32
  let c768_990 : Index := 768#32
  ![v2394.toNat, 64, 768]
def k0_off120 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2407 : Index := Scalar.indexCast v501
  let c64_993 : Index := 64#32
  let c896_994 : Index := 896#32
  ![v2407.toNat, 64, 896]
def k0_off121 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2420 : Index := Scalar.indexCast v501
  let c64_997 : Index := 64#32
  let c1024_998 : Index := 1024#32
  ![v2420.toNat, 64, 1024]
def k0_off122 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2433 : Index := Scalar.indexCast v501
  let c64_1001 : Index := 64#32
  let c1152_1002 : Index := 1152#32
  ![v2433.toNat, 64, 1152]
def k0_off123 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2446 : Index := Scalar.indexCast v501
  let c64_1005 : Index := 64#32
  let c1280_1006 : Index := 1280#32
  ![v2446.toNat, 64, 1280]
def k0_off124 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2459 : Index := Scalar.indexCast v501
  let c64_1009 : Index := 64#32
  let c1408_1010 : Index := 1408#32
  ![v2459.toNat, 64, 1408]
def k0_off125 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2472 : Index := Scalar.indexCast v501
  let c64_1013 : Index := 64#32
  let c1536_1014 : Index := 1536#32
  ![v2472.toNat, 64, 1536]
def k0_off126 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2485 : Index := Scalar.indexCast v501
  let c64_1017 : Index := 64#32
  let c1664_1018 : Index := 1664#32
  ![v2485.toNat, 64, 1664]
def k0_off127 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2498 : Index := Scalar.indexCast v501
  let c64_1021 : Index := 64#32
  let c1792_1022 : Index := 1792#32
  ![v2498.toNat, 64, 1792]
def k0_off128 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2511 : Index := Scalar.indexCast v501
  let c64_1025 : Index := 64#32
  let c1920_1026 : Index := 1920#32
  ![v2511.toNat, 64, 1920]
def k0_off129 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2524 : Index := Scalar.indexCast v501
  let c64_1029 : Index := 64#32
  let c2048_1030 : Index := 2048#32
  ![v2524.toNat, 64, 2048]
def k0_off130 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2537 : Index := Scalar.indexCast v501
  let c64_1033 : Index := 64#32
  let c2176_1034 : Index := 2176#32
  ![v2537.toNat, 64, 2176]
def k0_off131 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2550 : Index := Scalar.indexCast v501
  let c64_1037 : Index := 64#32
  let c2304_1038 : Index := 2304#32
  ![v2550.toNat, 64, 2304]
def k0_off132 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2563 : Index := Scalar.indexCast v501
  let c64_1041 : Index := 64#32
  let c2432_1042 : Index := 2432#32
  ![v2563.toNat, 64, 2432]
def k0_off133 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2576 : Index := Scalar.indexCast v501
  let c64_1045 : Index := 64#32
  let c2560_1046 : Index := 2560#32
  ![v2576.toNat, 64, 2560]
def k0_off134 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2589 : Index := Scalar.indexCast v501
  let c64_1049 : Index := 64#32
  let c2688_1050 : Index := 2688#32
  ![v2589.toNat, 64, 2688]
def k0_off135 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2602 : Index := Scalar.indexCast v501
  let c64_1053 : Index := 64#32
  let c2816_1054 : Index := 2816#32
  ![v2602.toNat, 64, 2816]
def k0_off136 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2615 : Index := Scalar.indexCast v501
  let c64_1057 : Index := 64#32
  let c2944_1058 : Index := 2944#32
  ![v2615.toNat, 64, 2944]
def k0_off137 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2628 : Index := Scalar.indexCast v501
  let c64_1061 : Index := 64#32
  let c3072_1062 : Index := 3072#32
  ![v2628.toNat, 64, 3072]
def k0_off138 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2641 : Index := Scalar.indexCast v501
  let c64_1065 : Index := 64#32
  let c3200_1066 : Index := 3200#32
  ![v2641.toNat, 64, 3200]
def k0_off139 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2654 : Index := Scalar.indexCast v501
  let c64_1069 : Index := 64#32
  let c3328_1070 : Index := 3328#32
  ![v2654.toNat, 64, 3328]
def k0_off140 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v2667 : Index := Scalar.indexCast v501
  let c64_1073 : Index := 64#32
  let c3456_1074 : Index := 3456#32
  ![v2667.toNat, 64, 3456]
def k0_off141 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3222 : Index := Scalar.indexCast v501
  let c96 : Index := 96#32
  let c0_1333 : Index := 0#32
  ![v3222.toNat, 96, 0]
def k0_off142 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3235 : Index := Scalar.indexCast v501
  let c96_1336 : Index := 96#32
  let c128_1337 : Index := 128#32
  ![v3235.toNat, 96, 128]
def k0_off143 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3248 : Index := Scalar.indexCast v501
  let c96_1340 : Index := 96#32
  let c256_1341 : Index := 256#32
  ![v3248.toNat, 96, 256]
def k0_off144 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3261 : Index := Scalar.indexCast v501
  let c96_1344 : Index := 96#32
  let c384_1345 : Index := 384#32
  ![v3261.toNat, 96, 384]
def k0_off145 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3274 : Index := Scalar.indexCast v501
  let c96_1348 : Index := 96#32
  let c512_1349 : Index := 512#32
  ![v3274.toNat, 96, 512]
def k0_off146 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3287 : Index := Scalar.indexCast v501
  let c96_1352 : Index := 96#32
  let c640_1353 : Index := 640#32
  ![v3287.toNat, 96, 640]
def k0_off147 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3300 : Index := Scalar.indexCast v501
  let c96_1356 : Index := 96#32
  let c768_1357 : Index := 768#32
  ![v3300.toNat, 96, 768]
def k0_off148 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3313 : Index := Scalar.indexCast v501
  let c96_1360 : Index := 96#32
  let c896_1361 : Index := 896#32
  ![v3313.toNat, 96, 896]
def k0_off149 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3326 : Index := Scalar.indexCast v501
  let c96_1364 : Index := 96#32
  let c1024_1365 : Index := 1024#32
  ![v3326.toNat, 96, 1024]
def k0_off150 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3339 : Index := Scalar.indexCast v501
  let c96_1368 : Index := 96#32
  let c1152_1369 : Index := 1152#32
  ![v3339.toNat, 96, 1152]
def k0_off151 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3352 : Index := Scalar.indexCast v501
  let c96_1372 : Index := 96#32
  let c1280_1373 : Index := 1280#32
  ![v3352.toNat, 96, 1280]
def k0_off152 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3365 : Index := Scalar.indexCast v501
  let c96_1376 : Index := 96#32
  let c1408_1377 : Index := 1408#32
  ![v3365.toNat, 96, 1408]
def k0_off153 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3378 : Index := Scalar.indexCast v501
  let c96_1380 : Index := 96#32
  let c1536_1381 : Index := 1536#32
  ![v3378.toNat, 96, 1536]
def k0_off154 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3391 : Index := Scalar.indexCast v501
  let c96_1384 : Index := 96#32
  let c1664_1385 : Index := 1664#32
  ![v3391.toNat, 96, 1664]
def k0_off155 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3404 : Index := Scalar.indexCast v501
  let c96_1388 : Index := 96#32
  let c1792_1389 : Index := 1792#32
  ![v3404.toNat, 96, 1792]
def k0_off156 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3417 : Index := Scalar.indexCast v501
  let c96_1392 : Index := 96#32
  let c1920_1393 : Index := 1920#32
  ![v3417.toNat, 96, 1920]
def k0_off157 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3430 : Index := Scalar.indexCast v501
  let c96_1396 : Index := 96#32
  let c2048_1397 : Index := 2048#32
  ![v3430.toNat, 96, 2048]
def k0_off158 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3443 : Index := Scalar.indexCast v501
  let c96_1400 : Index := 96#32
  let c2176_1401 : Index := 2176#32
  ![v3443.toNat, 96, 2176]
def k0_off159 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3456 : Index := Scalar.indexCast v501
  let c96_1404 : Index := 96#32
  let c2304_1405 : Index := 2304#32
  ![v3456.toNat, 96, 2304]
def k0_off160 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3469 : Index := Scalar.indexCast v501
  let c96_1408 : Index := 96#32
  let c2432_1409 : Index := 2432#32
  ![v3469.toNat, 96, 2432]
def k0_off161 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3482 : Index := Scalar.indexCast v501
  let c96_1412 : Index := 96#32
  let c2560_1413 : Index := 2560#32
  ![v3482.toNat, 96, 2560]
def k0_off162 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3495 : Index := Scalar.indexCast v501
  let c96_1416 : Index := 96#32
  let c2688_1417 : Index := 2688#32
  ![v3495.toNat, 96, 2688]
def k0_off163 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3508 : Index := Scalar.indexCast v501
  let c96_1420 : Index := 96#32
  let c2816_1421 : Index := 2816#32
  ![v3508.toNat, 96, 2816]
def k0_off164 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3521 : Index := Scalar.indexCast v501
  let c96_1424 : Index := 96#32
  let c2944_1425 : Index := 2944#32
  ![v3521.toNat, 96, 2944]
def k0_off165 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3534 : Index := Scalar.indexCast v501
  let c96_1428 : Index := 96#32
  let c3072_1429 : Index := 3072#32
  ![v3534.toNat, 96, 3072]
def k0_off166 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3547 : Index := Scalar.indexCast v501
  let c96_1432 : Index := 96#32
  let c3200_1433 : Index := 3200#32
  ![v3547.toNat, 96, 3200]
def k0_off167 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3560 : Index := Scalar.indexCast v501
  let c96_1436 : Index := 96#32
  let c3328_1437 : Index := 3328#32
  ![v3560.toNat, 96, 3328]
def k0_off168 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v3573 : Index := Scalar.indexCast v501
  let c96_1440 : Index := 96#32
  let c3456_1441 : Index := 3456#32
  ![v3573.toNat, 96, 3456]
def k0_off169 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4128 : Index := Scalar.indexCast v501
  let c128_1700 : Index := 128#32
  let c0_1701 : Index := 0#32
  ![v4128.toNat, 128, 0]
def k0_off170 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4141 : Index := Scalar.indexCast v501
  let c128_1704 : Index := 128#32
  let c128_1705 : Index := 128#32
  ![v4141.toNat, 128, 128]
def k0_off171 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4154 : Index := Scalar.indexCast v501
  let c128_1708 : Index := 128#32
  let c256_1709 : Index := 256#32
  ![v4154.toNat, 128, 256]
def k0_off172 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4167 : Index := Scalar.indexCast v501
  let c128_1712 : Index := 128#32
  let c384_1713 : Index := 384#32
  ![v4167.toNat, 128, 384]
def k0_off173 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4180 : Index := Scalar.indexCast v501
  let c128_1716 : Index := 128#32
  let c512_1717 : Index := 512#32
  ![v4180.toNat, 128, 512]
def k0_off174 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4193 : Index := Scalar.indexCast v501
  let c128_1720 : Index := 128#32
  let c640_1721 : Index := 640#32
  ![v4193.toNat, 128, 640]
def k0_off175 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4206 : Index := Scalar.indexCast v501
  let c128_1724 : Index := 128#32
  let c768_1725 : Index := 768#32
  ![v4206.toNat, 128, 768]
def k0_off176 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4219 : Index := Scalar.indexCast v501
  let c128_1728 : Index := 128#32
  let c896_1729 : Index := 896#32
  ![v4219.toNat, 128, 896]
def k0_off177 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4232 : Index := Scalar.indexCast v501
  let c128_1732 : Index := 128#32
  let c1024_1733 : Index := 1024#32
  ![v4232.toNat, 128, 1024]
def k0_off178 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4245 : Index := Scalar.indexCast v501
  let c128_1736 : Index := 128#32
  let c1152_1737 : Index := 1152#32
  ![v4245.toNat, 128, 1152]
def k0_off179 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4258 : Index := Scalar.indexCast v501
  let c128_1740 : Index := 128#32
  let c1280_1741 : Index := 1280#32
  ![v4258.toNat, 128, 1280]
def k0_off180 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4271 : Index := Scalar.indexCast v501
  let c128_1744 : Index := 128#32
  let c1408_1745 : Index := 1408#32
  ![v4271.toNat, 128, 1408]
def k0_off181 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4284 : Index := Scalar.indexCast v501
  let c128_1748 : Index := 128#32
  let c1536_1749 : Index := 1536#32
  ![v4284.toNat, 128, 1536]
def k0_off182 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4297 : Index := Scalar.indexCast v501
  let c128_1752 : Index := 128#32
  let c1664_1753 : Index := 1664#32
  ![v4297.toNat, 128, 1664]
def k0_off183 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4310 : Index := Scalar.indexCast v501
  let c128_1756 : Index := 128#32
  let c1792_1757 : Index := 1792#32
  ![v4310.toNat, 128, 1792]
def k0_off184 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4323 : Index := Scalar.indexCast v501
  let c128_1760 : Index := 128#32
  let c1920_1761 : Index := 1920#32
  ![v4323.toNat, 128, 1920]
def k0_off185 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4336 : Index := Scalar.indexCast v501
  let c128_1764 : Index := 128#32
  let c2048_1765 : Index := 2048#32
  ![v4336.toNat, 128, 2048]
def k0_off186 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4349 : Index := Scalar.indexCast v501
  let c128_1768 : Index := 128#32
  let c2176_1769 : Index := 2176#32
  ![v4349.toNat, 128, 2176]
def k0_off187 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4362 : Index := Scalar.indexCast v501
  let c128_1772 : Index := 128#32
  let c2304_1773 : Index := 2304#32
  ![v4362.toNat, 128, 2304]
def k0_off188 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4375 : Index := Scalar.indexCast v501
  let c128_1776 : Index := 128#32
  let c2432_1777 : Index := 2432#32
  ![v4375.toNat, 128, 2432]
def k0_off189 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4388 : Index := Scalar.indexCast v501
  let c128_1780 : Index := 128#32
  let c2560_1781 : Index := 2560#32
  ![v4388.toNat, 128, 2560]
def k0_off190 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4401 : Index := Scalar.indexCast v501
  let c128_1784 : Index := 128#32
  let c2688_1785 : Index := 2688#32
  ![v4401.toNat, 128, 2688]
def k0_off191 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4414 : Index := Scalar.indexCast v501
  let c128_1788 : Index := 128#32
  let c2816_1789 : Index := 2816#32
  ![v4414.toNat, 128, 2816]
def k0_off192 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4427 : Index := Scalar.indexCast v501
  let c128_1792 : Index := 128#32
  let c2944_1793 : Index := 2944#32
  ![v4427.toNat, 128, 2944]
def k0_off193 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4440 : Index := Scalar.indexCast v501
  let c128_1796 : Index := 128#32
  let c3072_1797 : Index := 3072#32
  ![v4440.toNat, 128, 3072]
def k0_off194 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4453 : Index := Scalar.indexCast v501
  let c128_1800 : Index := 128#32
  let c3200_1801 : Index := 3200#32
  ![v4453.toNat, 128, 3200]
def k0_off195 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4466 : Index := Scalar.indexCast v501
  let c128_1804 : Index := 128#32
  let c3328_1805 : Index := 3328#32
  ![v4466.toNat, 128, 3328]
def k0_off196 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v4479 : Index := Scalar.indexCast v501
  let c128_1808 : Index := 128#32
  let c3456_1809 : Index := 3456#32
  ![v4479.toNat, 128, 3456]
def k0_off197 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5034 : Index := Scalar.indexCast v501
  let c160 : Index := 160#32
  let c0_2068 : Index := 0#32
  ![v5034.toNat, 160, 0]
def k0_off198 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5047 : Index := Scalar.indexCast v501
  let c160_2071 : Index := 160#32
  let c128_2072 : Index := 128#32
  ![v5047.toNat, 160, 128]
def k0_off199 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5060 : Index := Scalar.indexCast v501
  let c160_2075 : Index := 160#32
  let c256_2076 : Index := 256#32
  ![v5060.toNat, 160, 256]
def k0_off200 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5073 : Index := Scalar.indexCast v501
  let c160_2079 : Index := 160#32
  let c384_2080 : Index := 384#32
  ![v5073.toNat, 160, 384]
def k0_off201 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5086 : Index := Scalar.indexCast v501
  let c160_2083 : Index := 160#32
  let c512_2084 : Index := 512#32
  ![v5086.toNat, 160, 512]
def k0_off202 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5099 : Index := Scalar.indexCast v501
  let c160_2087 : Index := 160#32
  let c640_2088 : Index := 640#32
  ![v5099.toNat, 160, 640]
def k0_off203 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5112 : Index := Scalar.indexCast v501
  let c160_2091 : Index := 160#32
  let c768_2092 : Index := 768#32
  ![v5112.toNat, 160, 768]
def k0_off204 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5125 : Index := Scalar.indexCast v501
  let c160_2095 : Index := 160#32
  let c896_2096 : Index := 896#32
  ![v5125.toNat, 160, 896]
def k0_off205 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5138 : Index := Scalar.indexCast v501
  let c160_2099 : Index := 160#32
  let c1024_2100 : Index := 1024#32
  ![v5138.toNat, 160, 1024]
def k0_off206 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5151 : Index := Scalar.indexCast v501
  let c160_2103 : Index := 160#32
  let c1152_2104 : Index := 1152#32
  ![v5151.toNat, 160, 1152]
def k0_off207 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5164 : Index := Scalar.indexCast v501
  let c160_2107 : Index := 160#32
  let c1280_2108 : Index := 1280#32
  ![v5164.toNat, 160, 1280]
def k0_off208 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5177 : Index := Scalar.indexCast v501
  let c160_2111 : Index := 160#32
  let c1408_2112 : Index := 1408#32
  ![v5177.toNat, 160, 1408]
def k0_off209 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5190 : Index := Scalar.indexCast v501
  let c160_2115 : Index := 160#32
  let c1536_2116 : Index := 1536#32
  ![v5190.toNat, 160, 1536]
def k0_off210 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5203 : Index := Scalar.indexCast v501
  let c160_2119 : Index := 160#32
  let c1664_2120 : Index := 1664#32
  ![v5203.toNat, 160, 1664]
def k0_off211 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5216 : Index := Scalar.indexCast v501
  let c160_2123 : Index := 160#32
  let c1792_2124 : Index := 1792#32
  ![v5216.toNat, 160, 1792]
def k0_off212 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5229 : Index := Scalar.indexCast v501
  let c160_2127 : Index := 160#32
  let c1920_2128 : Index := 1920#32
  ![v5229.toNat, 160, 1920]
def k0_off213 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5242 : Index := Scalar.indexCast v501
  let c160_2131 : Index := 160#32
  let c2048_2132 : Index := 2048#32
  ![v5242.toNat, 160, 2048]
def k0_off214 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5255 : Index := Scalar.indexCast v501
  let c160_2135 : Index := 160#32
  let c2176_2136 : Index := 2176#32
  ![v5255.toNat, 160, 2176]
def k0_off215 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5268 : Index := Scalar.indexCast v501
  let c160_2139 : Index := 160#32
  let c2304_2140 : Index := 2304#32
  ![v5268.toNat, 160, 2304]
def k0_off216 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5281 : Index := Scalar.indexCast v501
  let c160_2143 : Index := 160#32
  let c2432_2144 : Index := 2432#32
  ![v5281.toNat, 160, 2432]
def k0_off217 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5294 : Index := Scalar.indexCast v501
  let c160_2147 : Index := 160#32
  let c2560_2148 : Index := 2560#32
  ![v5294.toNat, 160, 2560]
def k0_off218 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5307 : Index := Scalar.indexCast v501
  let c160_2151 : Index := 160#32
  let c2688_2152 : Index := 2688#32
  ![v5307.toNat, 160, 2688]
def k0_off219 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5320 : Index := Scalar.indexCast v501
  let c160_2155 : Index := 160#32
  let c2816_2156 : Index := 2816#32
  ![v5320.toNat, 160, 2816]
def k0_off220 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5333 : Index := Scalar.indexCast v501
  let c160_2159 : Index := 160#32
  let c2944_2160 : Index := 2944#32
  ![v5333.toNat, 160, 2944]
def k0_off221 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5346 : Index := Scalar.indexCast v501
  let c160_2163 : Index := 160#32
  let c3072_2164 : Index := 3072#32
  ![v5346.toNat, 160, 3072]
def k0_off222 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5359 : Index := Scalar.indexCast v501
  let c160_2167 : Index := 160#32
  let c3200_2168 : Index := 3200#32
  ![v5359.toNat, 160, 3200]
def k0_off223 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5372 : Index := Scalar.indexCast v501
  let c160_2171 : Index := 160#32
  let c3328_2172 : Index := 3328#32
  ![v5372.toNat, 160, 3328]
def k0_off224 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5385 : Index := Scalar.indexCast v501
  let c160_2175 : Index := 160#32
  let c3456_2176 : Index := 3456#32
  ![v5385.toNat, 160, 3456]
def k0_off225 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5940 : Index := Scalar.indexCast v501
  let c192 : Index := 192#32
  let c0_2435 : Index := 0#32
  ![v5940.toNat, 192, 0]
def k0_off226 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5953 : Index := Scalar.indexCast v501
  let c192_2438 : Index := 192#32
  let c128_2439 : Index := 128#32
  ![v5953.toNat, 192, 128]
def k0_off227 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5966 : Index := Scalar.indexCast v501
  let c192_2442 : Index := 192#32
  let c256_2443 : Index := 256#32
  ![v5966.toNat, 192, 256]
def k0_off228 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5979 : Index := Scalar.indexCast v501
  let c192_2446 : Index := 192#32
  let c384_2447 : Index := 384#32
  ![v5979.toNat, 192, 384]
def k0_off229 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v5992 : Index := Scalar.indexCast v501
  let c192_2450 : Index := 192#32
  let c512_2451 : Index := 512#32
  ![v5992.toNat, 192, 512]
def k0_off230 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6005 : Index := Scalar.indexCast v501
  let c192_2454 : Index := 192#32
  let c640_2455 : Index := 640#32
  ![v6005.toNat, 192, 640]
def k0_off231 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6018 : Index := Scalar.indexCast v501
  let c192_2458 : Index := 192#32
  let c768_2459 : Index := 768#32
  ![v6018.toNat, 192, 768]
def k0_off232 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6031 : Index := Scalar.indexCast v501
  let c192_2462 : Index := 192#32
  let c896_2463 : Index := 896#32
  ![v6031.toNat, 192, 896]
def k0_off233 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6044 : Index := Scalar.indexCast v501
  let c192_2466 : Index := 192#32
  let c1024_2467 : Index := 1024#32
  ![v6044.toNat, 192, 1024]
def k0_off234 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6057 : Index := Scalar.indexCast v501
  let c192_2470 : Index := 192#32
  let c1152_2471 : Index := 1152#32
  ![v6057.toNat, 192, 1152]
def k0_off235 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6070 : Index := Scalar.indexCast v501
  let c192_2474 : Index := 192#32
  let c1280_2475 : Index := 1280#32
  ![v6070.toNat, 192, 1280]
def k0_off236 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6083 : Index := Scalar.indexCast v501
  let c192_2478 : Index := 192#32
  let c1408_2479 : Index := 1408#32
  ![v6083.toNat, 192, 1408]
def k0_off237 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6096 : Index := Scalar.indexCast v501
  let c192_2482 : Index := 192#32
  let c1536_2483 : Index := 1536#32
  ![v6096.toNat, 192, 1536]
def k0_off238 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6109 : Index := Scalar.indexCast v501
  let c192_2486 : Index := 192#32
  let c1664_2487 : Index := 1664#32
  ![v6109.toNat, 192, 1664]
def k0_off239 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6122 : Index := Scalar.indexCast v501
  let c192_2490 : Index := 192#32
  let c1792_2491 : Index := 1792#32
  ![v6122.toNat, 192, 1792]
def k0_off240 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6135 : Index := Scalar.indexCast v501
  let c192_2494 : Index := 192#32
  let c1920_2495 : Index := 1920#32
  ![v6135.toNat, 192, 1920]
def k0_off241 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6148 : Index := Scalar.indexCast v501
  let c192_2498 : Index := 192#32
  let c2048_2499 : Index := 2048#32
  ![v6148.toNat, 192, 2048]
def k0_off242 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6161 : Index := Scalar.indexCast v501
  let c192_2502 : Index := 192#32
  let c2176_2503 : Index := 2176#32
  ![v6161.toNat, 192, 2176]
def k0_off243 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6174 : Index := Scalar.indexCast v501
  let c192_2506 : Index := 192#32
  let c2304_2507 : Index := 2304#32
  ![v6174.toNat, 192, 2304]
def k0_off244 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6187 : Index := Scalar.indexCast v501
  let c192_2510 : Index := 192#32
  let c2432_2511 : Index := 2432#32
  ![v6187.toNat, 192, 2432]
def k0_off245 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6200 : Index := Scalar.indexCast v501
  let c192_2514 : Index := 192#32
  let c2560_2515 : Index := 2560#32
  ![v6200.toNat, 192, 2560]
def k0_off246 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6213 : Index := Scalar.indexCast v501
  let c192_2518 : Index := 192#32
  let c2688_2519 : Index := 2688#32
  ![v6213.toNat, 192, 2688]
def k0_off247 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6226 : Index := Scalar.indexCast v501
  let c192_2522 : Index := 192#32
  let c2816_2523 : Index := 2816#32
  ![v6226.toNat, 192, 2816]
def k0_off248 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6239 : Index := Scalar.indexCast v501
  let c192_2526 : Index := 192#32
  let c2944_2527 : Index := 2944#32
  ![v6239.toNat, 192, 2944]
def k0_off249 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6252 : Index := Scalar.indexCast v501
  let c192_2530 : Index := 192#32
  let c3072_2531 : Index := 3072#32
  ![v6252.toNat, 192, 3072]
def k0_off250 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6265 : Index := Scalar.indexCast v501
  let c192_2534 : Index := 192#32
  let c3200_2535 : Index := 3200#32
  ![v6265.toNat, 192, 3200]
def k0_off251 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6278 : Index := Scalar.indexCast v501
  let c192_2538 : Index := 192#32
  let c3328_2539 : Index := 3328#32
  ![v6278.toNat, 192, 3328]
def k0_off252 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6291 : Index := Scalar.indexCast v501
  let c192_2542 : Index := 192#32
  let c3456_2543 : Index := 3456#32
  ![v6291.toNat, 192, 3456]
def k0_off253 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6846 : Index := Scalar.indexCast v501
  let c224 : Index := 224#32
  let c0_2802 : Index := 0#32
  ![v6846.toNat, 224, 0]
def k0_off254 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6859 : Index := Scalar.indexCast v501
  let c224_2805 : Index := 224#32
  let c128_2806 : Index := 128#32
  ![v6859.toNat, 224, 128]
def k0_off255 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6872 : Index := Scalar.indexCast v501
  let c224_2809 : Index := 224#32
  let c256_2810 : Index := 256#32
  ![v6872.toNat, 224, 256]
def k0_off256 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6885 : Index := Scalar.indexCast v501
  let c224_2813 : Index := 224#32
  let c384_2814 : Index := 384#32
  ![v6885.toNat, 224, 384]
def k0_off257 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6898 : Index := Scalar.indexCast v501
  let c224_2817 : Index := 224#32
  let c512_2818 : Index := 512#32
  ![v6898.toNat, 224, 512]
def k0_off258 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6911 : Index := Scalar.indexCast v501
  let c224_2821 : Index := 224#32
  let c640_2822 : Index := 640#32
  ![v6911.toNat, 224, 640]
def k0_off259 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6924 : Index := Scalar.indexCast v501
  let c224_2825 : Index := 224#32
  let c768_2826 : Index := 768#32
  ![v6924.toNat, 224, 768]
def k0_off260 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6937 : Index := Scalar.indexCast v501
  let c224_2829 : Index := 224#32
  let c896_2830 : Index := 896#32
  ![v6937.toNat, 224, 896]
def k0_off261 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6950 : Index := Scalar.indexCast v501
  let c224_2833 : Index := 224#32
  let c1024_2834 : Index := 1024#32
  ![v6950.toNat, 224, 1024]
def k0_off262 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6963 : Index := Scalar.indexCast v501
  let c224_2837 : Index := 224#32
  let c1152_2838 : Index := 1152#32
  ![v6963.toNat, 224, 1152]
def k0_off263 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6976 : Index := Scalar.indexCast v501
  let c224_2841 : Index := 224#32
  let c1280_2842 : Index := 1280#32
  ![v6976.toNat, 224, 1280]
def k0_off264 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v6989 : Index := Scalar.indexCast v501
  let c224_2845 : Index := 224#32
  let c1408_2846 : Index := 1408#32
  ![v6989.toNat, 224, 1408]
def k0_off265 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v7002 : Index := Scalar.indexCast v501
  let c224_2849 : Index := 224#32
  let c1536_2850 : Index := 1536#32
  ![v7002.toNat, 224, 1536]
def k0_off266 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v7015 : Index := Scalar.indexCast v501
  let c224_2853 : Index := 224#32
  let c1664_2854 : Index := 1664#32
  ![v7015.toNat, 224, 1664]
def k0_off267 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v7028 : Index := Scalar.indexCast v501
  let c224_2857 : Index := 224#32
  let c1792_2858 : Index := 1792#32
  ![v7028.toNat, 224, 1792]
def k0_off268 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v7041 : Index := Scalar.indexCast v501
  let c224_2861 : Index := 224#32
  let c1920_2862 : Index := 1920#32
  ![v7041.toNat, 224, 1920]
def k0_off269 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v7054 : Index := Scalar.indexCast v501
  let c224_2865 : Index := 224#32
  let c2048_2866 : Index := 2048#32
  ![v7054.toNat, 224, 2048]
def k0_off270 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v7067 : Index := Scalar.indexCast v501
  let c224_2869 : Index := 224#32
  let c2176_2870 : Index := 2176#32
  ![v7067.toNat, 224, 2176]
def k0_off271 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v7080 : Index := Scalar.indexCast v501
  let c224_2873 : Index := 224#32
  let c2304_2874 : Index := 2304#32
  ![v7080.toNat, 224, 2304]
def k0_off272 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v7093 : Index := Scalar.indexCast v501
  let c224_2877 : Index := 224#32
  let c2432_2878 : Index := 2432#32
  ![v7093.toNat, 224, 2432]
def k0_off273 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v7106 : Index := Scalar.indexCast v501
  let c224_2881 : Index := 224#32
  let c2560_2882 : Index := 2560#32
  ![v7106.toNat, 224, 2560]
def k0_off274 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v7119 : Index := Scalar.indexCast v501
  let c224_2885 : Index := 224#32
  let c2688_2886 : Index := 2688#32
  ![v7119.toNat, 224, 2688]
def k0_off275 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v7132 : Index := Scalar.indexCast v501
  let c224_2889 : Index := 224#32
  let c2816_2890 : Index := 2816#32
  ![v7132.toNat, 224, 2816]
def k0_off276 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v7145 : Index := Scalar.indexCast v501
  let c224_2893 : Index := 224#32
  let c2944_2894 : Index := 2944#32
  ![v7145.toNat, 224, 2944]
def k0_off277 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v7158 : Index := Scalar.indexCast v501
  let c224_2897 : Index := 224#32
  let c3072_2898 : Index := 3072#32
  ![v7158.toNat, 224, 3072]
def k0_off278 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v7171 : Index := Scalar.indexCast v501
  let c224_2901 : Index := 224#32
  let c3200_2902 : Index := 3200#32
  ![v7171.toNat, 224, 3200]
def k0_off279 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v7184 : Index := Scalar.indexCast v501
  let c224_2905 : Index := 224#32
  let c3328_2906 : Index := 3328#32
  ![v7184.toNat, 224, 3328]
def k0_off280 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v501 : BitVec 32 := Scalar.subi c1_i32 v0
  let v7197 : Index := Scalar.indexCast v501
  let c224_2909 : Index := 224#32
  let c3456_2910 : Index := 3456#32
  ![v7197.toNat, 224, 3456]
def k0_cond3 (i : grid0.Coords) : BitVec 1 :=
  let arg0 : BitVec 32 := BitVec.ofNat 32 (i 0).val
  let c12_i32_3 : BitVec 32 := 12#32
  let v9 : BitVec 1 := Scalar.cmpi .eq arg0 c12_i32_3
  let v10 : BitVec 32 := Scalar.extui v9
  let c0_i32_4 : BitVec 32 := 0#32
  let v11 : BitVec 1 := Scalar.cmpi .ne v10 c0_i32_4
  v11

def k0_off281 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v15 : Index := Scalar.indexCast v12
  let c0 : Index := 0#32
  let c0_6 : Index := 0#32
  ![v15.toNat, 0, 0]
def k0_off282 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v28 : Index := Scalar.indexCast v12
  let c0_9 : Index := 0#32
  let c128 : Index := 128#32
  ![v28.toNat, 0, 128]
def k0_off283 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v41 : Index := Scalar.indexCast v12
  let c0_12 : Index := 0#32
  let c256 : Index := 256#32
  ![v41.toNat, 0, 256]
def k0_off284 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v54 : Index := Scalar.indexCast v12
  let c0_15 : Index := 0#32
  let c384 : Index := 384#32
  ![v54.toNat, 0, 384]
def k0_off285 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v67 : Index := Scalar.indexCast v12
  let c0_18 : Index := 0#32
  let c512 : Index := 512#32
  ![v67.toNat, 0, 512]
def k0_off286 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v80 : Index := Scalar.indexCast v12
  let c0_21 : Index := 0#32
  let c640 : Index := 640#32
  ![v80.toNat, 0, 640]
def k0_off287 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v93 : Index := Scalar.indexCast v12
  let c0_24 : Index := 0#32
  let c768 : Index := 768#32
  ![v93.toNat, 0, 768]
def k0_off288 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v106 : Index := Scalar.indexCast v12
  let c0_27 : Index := 0#32
  let c896 : Index := 896#32
  ![v106.toNat, 0, 896]
def k0_off289 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v119 : Index := Scalar.indexCast v12
  let c0_30 : Index := 0#32
  let c1024 : Index := 1024#32
  ![v119.toNat, 0, 1024]
def k0_off290 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v132 : Index := Scalar.indexCast v12
  let c0_33 : Index := 0#32
  let c1152 : Index := 1152#32
  ![v132.toNat, 0, 1152]
def k0_off291 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v145 : Index := Scalar.indexCast v12
  let c0_36 : Index := 0#32
  let c1280 : Index := 1280#32
  ![v145.toNat, 0, 1280]
def k0_off292 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v158 : Index := Scalar.indexCast v12
  let c0_39 : Index := 0#32
  let c1408 : Index := 1408#32
  ![v158.toNat, 0, 1408]
def k0_off293 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v171 : Index := Scalar.indexCast v12
  let c0_42 : Index := 0#32
  let c1536 : Index := 1536#32
  ![v171.toNat, 0, 1536]
def k0_off294 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v184 : Index := Scalar.indexCast v12
  let c0_45 : Index := 0#32
  let c1664 : Index := 1664#32
  ![v184.toNat, 0, 1664]
def k0_off295 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v197 : Index := Scalar.indexCast v12
  let c0_48 : Index := 0#32
  let c1792 : Index := 1792#32
  ![v197.toNat, 0, 1792]
def k0_off296 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v210 : Index := Scalar.indexCast v12
  let c0_51 : Index := 0#32
  let c1920 : Index := 1920#32
  ![v210.toNat, 0, 1920]
def k0_off297 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v223 : Index := Scalar.indexCast v12
  let c0_54 : Index := 0#32
  let c2048 : Index := 2048#32
  ![v223.toNat, 0, 2048]
def k0_off298 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v236 : Index := Scalar.indexCast v12
  let c0_57 : Index := 0#32
  let c2176 : Index := 2176#32
  ![v236.toNat, 0, 2176]
def k0_off299 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v249 : Index := Scalar.indexCast v12
  let c0_60 : Index := 0#32
  let c2304 : Index := 2304#32
  ![v249.toNat, 0, 2304]
def k0_off300 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v262 : Index := Scalar.indexCast v12
  let c0_63 : Index := 0#32
  let c2432 : Index := 2432#32
  ![v262.toNat, 0, 2432]
def k0_off301 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v275 : Index := Scalar.indexCast v12
  let c0_66 : Index := 0#32
  let c2560 : Index := 2560#32
  ![v275.toNat, 0, 2560]
def k0_off302 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v288 : Index := Scalar.indexCast v12
  let c0_69 : Index := 0#32
  let c2688 : Index := 2688#32
  ![v288.toNat, 0, 2688]
def k0_off303 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v301 : Index := Scalar.indexCast v12
  let c0_72 : Index := 0#32
  let c2816 : Index := 2816#32
  ![v301.toNat, 0, 2816]
def k0_off304 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v314 : Index := Scalar.indexCast v12
  let c0_75 : Index := 0#32
  let c2944 : Index := 2944#32
  ![v314.toNat, 0, 2944]
def k0_off305 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v327 : Index := Scalar.indexCast v12
  let c0_78 : Index := 0#32
  let c3072 : Index := 3072#32
  ![v327.toNat, 0, 3072]
def k0_off306 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v340 : Index := Scalar.indexCast v12
  let c0_81 : Index := 0#32
  let c3200 : Index := 3200#32
  ![v340.toNat, 0, 3200]
def k0_off307 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v353 : Index := Scalar.indexCast v12
  let c0_84 : Index := 0#32
  let c3328 : Index := 3328#32
  ![v353.toNat, 0, 3328]
def k0_off308 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v366 : Index := Scalar.indexCast v12
  let c0_87 : Index := 0#32
  let c3456 : Index := 3456#32
  ![v366.toNat, 0, 3456]
def k0_off309 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v921 : Index := Scalar.indexCast v12
  let c32 : Index := 32#32
  let c0_337 : Index := 0#32
  ![v921.toNat, 32, 0]
def k0_off310 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v934 : Index := Scalar.indexCast v12
  let c32_340 : Index := 32#32
  let c128_341 : Index := 128#32
  ![v934.toNat, 32, 128]
def k0_off311 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v947 : Index := Scalar.indexCast v12
  let c32_344 : Index := 32#32
  let c256_345 : Index := 256#32
  ![v947.toNat, 32, 256]
def k0_off312 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v960 : Index := Scalar.indexCast v12
  let c32_348 : Index := 32#32
  let c384_349 : Index := 384#32
  ![v960.toNat, 32, 384]
def k0_off313 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v973 : Index := Scalar.indexCast v12
  let c32_352 : Index := 32#32
  let c512_353 : Index := 512#32
  ![v973.toNat, 32, 512]
def k0_off314 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v986 : Index := Scalar.indexCast v12
  let c32_356 : Index := 32#32
  let c640_357 : Index := 640#32
  ![v986.toNat, 32, 640]
def k0_off315 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v999 : Index := Scalar.indexCast v12
  let c32_360 : Index := 32#32
  let c768_361 : Index := 768#32
  ![v999.toNat, 32, 768]
def k0_off316 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1012 : Index := Scalar.indexCast v12
  let c32_364 : Index := 32#32
  let c896_365 : Index := 896#32
  ![v1012.toNat, 32, 896]
def k0_off317 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1025 : Index := Scalar.indexCast v12
  let c32_368 : Index := 32#32
  let c1024_369 : Index := 1024#32
  ![v1025.toNat, 32, 1024]
def k0_off318 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1038 : Index := Scalar.indexCast v12
  let c32_372 : Index := 32#32
  let c1152_373 : Index := 1152#32
  ![v1038.toNat, 32, 1152]
def k0_off319 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1051 : Index := Scalar.indexCast v12
  let c32_376 : Index := 32#32
  let c1280_377 : Index := 1280#32
  ![v1051.toNat, 32, 1280]
def k0_off320 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1064 : Index := Scalar.indexCast v12
  let c32_380 : Index := 32#32
  let c1408_381 : Index := 1408#32
  ![v1064.toNat, 32, 1408]
def k0_off321 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1077 : Index := Scalar.indexCast v12
  let c32_384 : Index := 32#32
  let c1536_385 : Index := 1536#32
  ![v1077.toNat, 32, 1536]
def k0_off322 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1090 : Index := Scalar.indexCast v12
  let c32_388 : Index := 32#32
  let c1664_389 : Index := 1664#32
  ![v1090.toNat, 32, 1664]
def k0_off323 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1103 : Index := Scalar.indexCast v12
  let c32_392 : Index := 32#32
  let c1792_393 : Index := 1792#32
  ![v1103.toNat, 32, 1792]
def k0_off324 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1116 : Index := Scalar.indexCast v12
  let c32_396 : Index := 32#32
  let c1920_397 : Index := 1920#32
  ![v1116.toNat, 32, 1920]
def k0_off325 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1129 : Index := Scalar.indexCast v12
  let c32_400 : Index := 32#32
  let c2048_401 : Index := 2048#32
  ![v1129.toNat, 32, 2048]
def k0_off326 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1142 : Index := Scalar.indexCast v12
  let c32_404 : Index := 32#32
  let c2176_405 : Index := 2176#32
  ![v1142.toNat, 32, 2176]
def k0_off327 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1155 : Index := Scalar.indexCast v12
  let c32_408 : Index := 32#32
  let c2304_409 : Index := 2304#32
  ![v1155.toNat, 32, 2304]
def k0_off328 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1168 : Index := Scalar.indexCast v12
  let c32_412 : Index := 32#32
  let c2432_413 : Index := 2432#32
  ![v1168.toNat, 32, 2432]
def k0_off329 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1181 : Index := Scalar.indexCast v12
  let c32_416 : Index := 32#32
  let c2560_417 : Index := 2560#32
  ![v1181.toNat, 32, 2560]
def k0_off330 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1194 : Index := Scalar.indexCast v12
  let c32_420 : Index := 32#32
  let c2688_421 : Index := 2688#32
  ![v1194.toNat, 32, 2688]
def k0_off331 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1207 : Index := Scalar.indexCast v12
  let c32_424 : Index := 32#32
  let c2816_425 : Index := 2816#32
  ![v1207.toNat, 32, 2816]
def k0_off332 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1220 : Index := Scalar.indexCast v12
  let c32_428 : Index := 32#32
  let c2944_429 : Index := 2944#32
  ![v1220.toNat, 32, 2944]
def k0_off333 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1233 : Index := Scalar.indexCast v12
  let c32_432 : Index := 32#32
  let c3072_433 : Index := 3072#32
  ![v1233.toNat, 32, 3072]
def k0_off334 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1246 : Index := Scalar.indexCast v12
  let c32_436 : Index := 32#32
  let c3200_437 : Index := 3200#32
  ![v1246.toNat, 32, 3200]
def k0_off335 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1259 : Index := Scalar.indexCast v12
  let c32_440 : Index := 32#32
  let c3328_441 : Index := 3328#32
  ![v1259.toNat, 32, 3328]
def k0_off336 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1272 : Index := Scalar.indexCast v12
  let c32_444 : Index := 32#32
  let c3456_445 : Index := 3456#32
  ![v1272.toNat, 32, 3456]
def k0_off337 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1827 : Index := Scalar.indexCast v12
  let c64 : Index := 64#32
  let c0_704 : Index := 0#32
  ![v1827.toNat, 64, 0]
def k0_off338 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1840 : Index := Scalar.indexCast v12
  let c64_707 : Index := 64#32
  let c128_708 : Index := 128#32
  ![v1840.toNat, 64, 128]
def k0_off339 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1853 : Index := Scalar.indexCast v12
  let c64_711 : Index := 64#32
  let c256_712 : Index := 256#32
  ![v1853.toNat, 64, 256]
def k0_off340 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1866 : Index := Scalar.indexCast v12
  let c64_715 : Index := 64#32
  let c384_716 : Index := 384#32
  ![v1866.toNat, 64, 384]
def k0_off341 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1879 : Index := Scalar.indexCast v12
  let c64_719 : Index := 64#32
  let c512_720 : Index := 512#32
  ![v1879.toNat, 64, 512]
def k0_off342 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1892 : Index := Scalar.indexCast v12
  let c64_723 : Index := 64#32
  let c640_724 : Index := 640#32
  ![v1892.toNat, 64, 640]
def k0_off343 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1905 : Index := Scalar.indexCast v12
  let c64_727 : Index := 64#32
  let c768_728 : Index := 768#32
  ![v1905.toNat, 64, 768]
def k0_off344 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1918 : Index := Scalar.indexCast v12
  let c64_731 : Index := 64#32
  let c896_732 : Index := 896#32
  ![v1918.toNat, 64, 896]
def k0_off345 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1931 : Index := Scalar.indexCast v12
  let c64_735 : Index := 64#32
  let c1024_736 : Index := 1024#32
  ![v1931.toNat, 64, 1024]
def k0_off346 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1944 : Index := Scalar.indexCast v12
  let c64_739 : Index := 64#32
  let c1152_740 : Index := 1152#32
  ![v1944.toNat, 64, 1152]
def k0_off347 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1957 : Index := Scalar.indexCast v12
  let c64_743 : Index := 64#32
  let c1280_744 : Index := 1280#32
  ![v1957.toNat, 64, 1280]
def k0_off348 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1970 : Index := Scalar.indexCast v12
  let c64_747 : Index := 64#32
  let c1408_748 : Index := 1408#32
  ![v1970.toNat, 64, 1408]
def k0_off349 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1983 : Index := Scalar.indexCast v12
  let c64_751 : Index := 64#32
  let c1536_752 : Index := 1536#32
  ![v1983.toNat, 64, 1536]
def k0_off350 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v1996 : Index := Scalar.indexCast v12
  let c64_755 : Index := 64#32
  let c1664_756 : Index := 1664#32
  ![v1996.toNat, 64, 1664]
def k0_off351 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2009 : Index := Scalar.indexCast v12
  let c64_759 : Index := 64#32
  let c1792_760 : Index := 1792#32
  ![v2009.toNat, 64, 1792]
def k0_off352 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2022 : Index := Scalar.indexCast v12
  let c64_763 : Index := 64#32
  let c1920_764 : Index := 1920#32
  ![v2022.toNat, 64, 1920]
def k0_off353 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2035 : Index := Scalar.indexCast v12
  let c64_767 : Index := 64#32
  let c2048_768 : Index := 2048#32
  ![v2035.toNat, 64, 2048]
def k0_off354 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2048 : Index := Scalar.indexCast v12
  let c64_771 : Index := 64#32
  let c2176_772 : Index := 2176#32
  ![v2048.toNat, 64, 2176]
def k0_off355 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2061 : Index := Scalar.indexCast v12
  let c64_775 : Index := 64#32
  let c2304_776 : Index := 2304#32
  ![v2061.toNat, 64, 2304]
def k0_off356 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2074 : Index := Scalar.indexCast v12
  let c64_779 : Index := 64#32
  let c2432_780 : Index := 2432#32
  ![v2074.toNat, 64, 2432]
def k0_off357 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2087 : Index := Scalar.indexCast v12
  let c64_783 : Index := 64#32
  let c2560_784 : Index := 2560#32
  ![v2087.toNat, 64, 2560]
def k0_off358 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2100 : Index := Scalar.indexCast v12
  let c64_787 : Index := 64#32
  let c2688_788 : Index := 2688#32
  ![v2100.toNat, 64, 2688]
def k0_off359 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2113 : Index := Scalar.indexCast v12
  let c64_791 : Index := 64#32
  let c2816_792 : Index := 2816#32
  ![v2113.toNat, 64, 2816]
def k0_off360 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2126 : Index := Scalar.indexCast v12
  let c64_795 : Index := 64#32
  let c2944_796 : Index := 2944#32
  ![v2126.toNat, 64, 2944]
def k0_off361 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2139 : Index := Scalar.indexCast v12
  let c64_799 : Index := 64#32
  let c3072_800 : Index := 3072#32
  ![v2139.toNat, 64, 3072]
def k0_off362 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2152 : Index := Scalar.indexCast v12
  let c64_803 : Index := 64#32
  let c3200_804 : Index := 3200#32
  ![v2152.toNat, 64, 3200]
def k0_off363 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2165 : Index := Scalar.indexCast v12
  let c64_807 : Index := 64#32
  let c3328_808 : Index := 3328#32
  ![v2165.toNat, 64, 3328]
def k0_off364 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2178 : Index := Scalar.indexCast v12
  let c64_811 : Index := 64#32
  let c3456_812 : Index := 3456#32
  ![v2178.toNat, 64, 3456]
def k0_off365 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2733 : Index := Scalar.indexCast v12
  let c96 : Index := 96#32
  let c0_1071 : Index := 0#32
  ![v2733.toNat, 96, 0]
def k0_off366 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2746 : Index := Scalar.indexCast v12
  let c96_1074 : Index := 96#32
  let c128_1075 : Index := 128#32
  ![v2746.toNat, 96, 128]
def k0_off367 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2759 : Index := Scalar.indexCast v12
  let c96_1078 : Index := 96#32
  let c256_1079 : Index := 256#32
  ![v2759.toNat, 96, 256]
def k0_off368 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2772 : Index := Scalar.indexCast v12
  let c96_1082 : Index := 96#32
  let c384_1083 : Index := 384#32
  ![v2772.toNat, 96, 384]
def k0_off369 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2785 : Index := Scalar.indexCast v12
  let c96_1086 : Index := 96#32
  let c512_1087 : Index := 512#32
  ![v2785.toNat, 96, 512]
def k0_off370 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2798 : Index := Scalar.indexCast v12
  let c96_1090 : Index := 96#32
  let c640_1091 : Index := 640#32
  ![v2798.toNat, 96, 640]
def k0_off371 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2811 : Index := Scalar.indexCast v12
  let c96_1094 : Index := 96#32
  let c768_1095 : Index := 768#32
  ![v2811.toNat, 96, 768]
def k0_off372 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2824 : Index := Scalar.indexCast v12
  let c96_1098 : Index := 96#32
  let c896_1099 : Index := 896#32
  ![v2824.toNat, 96, 896]
def k0_off373 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2837 : Index := Scalar.indexCast v12
  let c96_1102 : Index := 96#32
  let c1024_1103 : Index := 1024#32
  ![v2837.toNat, 96, 1024]
def k0_off374 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2850 : Index := Scalar.indexCast v12
  let c96_1106 : Index := 96#32
  let c1152_1107 : Index := 1152#32
  ![v2850.toNat, 96, 1152]
def k0_off375 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2863 : Index := Scalar.indexCast v12
  let c96_1110 : Index := 96#32
  let c1280_1111 : Index := 1280#32
  ![v2863.toNat, 96, 1280]
def k0_off376 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2876 : Index := Scalar.indexCast v12
  let c96_1114 : Index := 96#32
  let c1408_1115 : Index := 1408#32
  ![v2876.toNat, 96, 1408]
def k0_off377 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2889 : Index := Scalar.indexCast v12
  let c96_1118 : Index := 96#32
  let c1536_1119 : Index := 1536#32
  ![v2889.toNat, 96, 1536]
def k0_off378 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2902 : Index := Scalar.indexCast v12
  let c96_1122 : Index := 96#32
  let c1664_1123 : Index := 1664#32
  ![v2902.toNat, 96, 1664]
def k0_off379 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2915 : Index := Scalar.indexCast v12
  let c96_1126 : Index := 96#32
  let c1792_1127 : Index := 1792#32
  ![v2915.toNat, 96, 1792]
def k0_off380 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2928 : Index := Scalar.indexCast v12
  let c96_1130 : Index := 96#32
  let c1920_1131 : Index := 1920#32
  ![v2928.toNat, 96, 1920]
def k0_off381 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2941 : Index := Scalar.indexCast v12
  let c96_1134 : Index := 96#32
  let c2048_1135 : Index := 2048#32
  ![v2941.toNat, 96, 2048]
def k0_off382 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2954 : Index := Scalar.indexCast v12
  let c96_1138 : Index := 96#32
  let c2176_1139 : Index := 2176#32
  ![v2954.toNat, 96, 2176]
def k0_off383 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2967 : Index := Scalar.indexCast v12
  let c96_1142 : Index := 96#32
  let c2304_1143 : Index := 2304#32
  ![v2967.toNat, 96, 2304]
def k0_off384 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2980 : Index := Scalar.indexCast v12
  let c96_1146 : Index := 96#32
  let c2432_1147 : Index := 2432#32
  ![v2980.toNat, 96, 2432]
def k0_off385 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v2993 : Index := Scalar.indexCast v12
  let c96_1150 : Index := 96#32
  let c2560_1151 : Index := 2560#32
  ![v2993.toNat, 96, 2560]
def k0_off386 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3006 : Index := Scalar.indexCast v12
  let c96_1154 : Index := 96#32
  let c2688_1155 : Index := 2688#32
  ![v3006.toNat, 96, 2688]
def k0_off387 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3019 : Index := Scalar.indexCast v12
  let c96_1158 : Index := 96#32
  let c2816_1159 : Index := 2816#32
  ![v3019.toNat, 96, 2816]
def k0_off388 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3032 : Index := Scalar.indexCast v12
  let c96_1162 : Index := 96#32
  let c2944_1163 : Index := 2944#32
  ![v3032.toNat, 96, 2944]
def k0_off389 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3045 : Index := Scalar.indexCast v12
  let c96_1166 : Index := 96#32
  let c3072_1167 : Index := 3072#32
  ![v3045.toNat, 96, 3072]
def k0_off390 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3058 : Index := Scalar.indexCast v12
  let c96_1170 : Index := 96#32
  let c3200_1171 : Index := 3200#32
  ![v3058.toNat, 96, 3200]
def k0_off391 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3071 : Index := Scalar.indexCast v12
  let c96_1174 : Index := 96#32
  let c3328_1175 : Index := 3328#32
  ![v3071.toNat, 96, 3328]
def k0_off392 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3084 : Index := Scalar.indexCast v12
  let c96_1178 : Index := 96#32
  let c3456_1179 : Index := 3456#32
  ![v3084.toNat, 96, 3456]
def k0_off393 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3639 : Index := Scalar.indexCast v12
  let c128_1438 : Index := 128#32
  let c0_1439 : Index := 0#32
  ![v3639.toNat, 128, 0]
def k0_off394 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3652 : Index := Scalar.indexCast v12
  let c128_1442 : Index := 128#32
  let c128_1443 : Index := 128#32
  ![v3652.toNat, 128, 128]
def k0_off395 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3665 : Index := Scalar.indexCast v12
  let c128_1446 : Index := 128#32
  let c256_1447 : Index := 256#32
  ![v3665.toNat, 128, 256]
def k0_off396 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3678 : Index := Scalar.indexCast v12
  let c128_1450 : Index := 128#32
  let c384_1451 : Index := 384#32
  ![v3678.toNat, 128, 384]
def k0_off397 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3691 : Index := Scalar.indexCast v12
  let c128_1454 : Index := 128#32
  let c512_1455 : Index := 512#32
  ![v3691.toNat, 128, 512]
def k0_off398 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3704 : Index := Scalar.indexCast v12
  let c128_1458 : Index := 128#32
  let c640_1459 : Index := 640#32
  ![v3704.toNat, 128, 640]
def k0_off399 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3717 : Index := Scalar.indexCast v12
  let c128_1462 : Index := 128#32
  let c768_1463 : Index := 768#32
  ![v3717.toNat, 128, 768]
def k0_off400 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3730 : Index := Scalar.indexCast v12
  let c128_1466 : Index := 128#32
  let c896_1467 : Index := 896#32
  ![v3730.toNat, 128, 896]
def k0_off401 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3743 : Index := Scalar.indexCast v12
  let c128_1470 : Index := 128#32
  let c1024_1471 : Index := 1024#32
  ![v3743.toNat, 128, 1024]
def k0_off402 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3756 : Index := Scalar.indexCast v12
  let c128_1474 : Index := 128#32
  let c1152_1475 : Index := 1152#32
  ![v3756.toNat, 128, 1152]
def k0_off403 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3769 : Index := Scalar.indexCast v12
  let c128_1478 : Index := 128#32
  let c1280_1479 : Index := 1280#32
  ![v3769.toNat, 128, 1280]
def k0_off404 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3782 : Index := Scalar.indexCast v12
  let c128_1482 : Index := 128#32
  let c1408_1483 : Index := 1408#32
  ![v3782.toNat, 128, 1408]
def k0_off405 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3795 : Index := Scalar.indexCast v12
  let c128_1486 : Index := 128#32
  let c1536_1487 : Index := 1536#32
  ![v3795.toNat, 128, 1536]
def k0_off406 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3808 : Index := Scalar.indexCast v12
  let c128_1490 : Index := 128#32
  let c1664_1491 : Index := 1664#32
  ![v3808.toNat, 128, 1664]
def k0_off407 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3821 : Index := Scalar.indexCast v12
  let c128_1494 : Index := 128#32
  let c1792_1495 : Index := 1792#32
  ![v3821.toNat, 128, 1792]
def k0_off408 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3834 : Index := Scalar.indexCast v12
  let c128_1498 : Index := 128#32
  let c1920_1499 : Index := 1920#32
  ![v3834.toNat, 128, 1920]
def k0_off409 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3847 : Index := Scalar.indexCast v12
  let c128_1502 : Index := 128#32
  let c2048_1503 : Index := 2048#32
  ![v3847.toNat, 128, 2048]
def k0_off410 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3860 : Index := Scalar.indexCast v12
  let c128_1506 : Index := 128#32
  let c2176_1507 : Index := 2176#32
  ![v3860.toNat, 128, 2176]
def k0_off411 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3873 : Index := Scalar.indexCast v12
  let c128_1510 : Index := 128#32
  let c2304_1511 : Index := 2304#32
  ![v3873.toNat, 128, 2304]
def k0_off412 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3886 : Index := Scalar.indexCast v12
  let c128_1514 : Index := 128#32
  let c2432_1515 : Index := 2432#32
  ![v3886.toNat, 128, 2432]
def k0_off413 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3899 : Index := Scalar.indexCast v12
  let c128_1518 : Index := 128#32
  let c2560_1519 : Index := 2560#32
  ![v3899.toNat, 128, 2560]
def k0_off414 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3912 : Index := Scalar.indexCast v12
  let c128_1522 : Index := 128#32
  let c2688_1523 : Index := 2688#32
  ![v3912.toNat, 128, 2688]
def k0_off415 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3925 : Index := Scalar.indexCast v12
  let c128_1526 : Index := 128#32
  let c2816_1527 : Index := 2816#32
  ![v3925.toNat, 128, 2816]
def k0_off416 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3938 : Index := Scalar.indexCast v12
  let c128_1530 : Index := 128#32
  let c2944_1531 : Index := 2944#32
  ![v3938.toNat, 128, 2944]
def k0_off417 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3951 : Index := Scalar.indexCast v12
  let c128_1534 : Index := 128#32
  let c3072_1535 : Index := 3072#32
  ![v3951.toNat, 128, 3072]
def k0_off418 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3964 : Index := Scalar.indexCast v12
  let c128_1538 : Index := 128#32
  let c3200_1539 : Index := 3200#32
  ![v3964.toNat, 128, 3200]
def k0_off419 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3977 : Index := Scalar.indexCast v12
  let c128_1542 : Index := 128#32
  let c3328_1543 : Index := 3328#32
  ![v3977.toNat, 128, 3328]
def k0_off420 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v3990 : Index := Scalar.indexCast v12
  let c128_1546 : Index := 128#32
  let c3456_1547 : Index := 3456#32
  ![v3990.toNat, 128, 3456]
def k0_off421 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4545 : Index := Scalar.indexCast v12
  let c160 : Index := 160#32
  let c0_1806 : Index := 0#32
  ![v4545.toNat, 160, 0]
def k0_off422 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4558 : Index := Scalar.indexCast v12
  let c160_1809 : Index := 160#32
  let c128_1810 : Index := 128#32
  ![v4558.toNat, 160, 128]
def k0_off423 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4571 : Index := Scalar.indexCast v12
  let c160_1813 : Index := 160#32
  let c256_1814 : Index := 256#32
  ![v4571.toNat, 160, 256]
def k0_off424 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4584 : Index := Scalar.indexCast v12
  let c160_1817 : Index := 160#32
  let c384_1818 : Index := 384#32
  ![v4584.toNat, 160, 384]
def k0_off425 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4597 : Index := Scalar.indexCast v12
  let c160_1821 : Index := 160#32
  let c512_1822 : Index := 512#32
  ![v4597.toNat, 160, 512]
def k0_off426 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4610 : Index := Scalar.indexCast v12
  let c160_1825 : Index := 160#32
  let c640_1826 : Index := 640#32
  ![v4610.toNat, 160, 640]
def k0_off427 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4623 : Index := Scalar.indexCast v12
  let c160_1829 : Index := 160#32
  let c768_1830 : Index := 768#32
  ![v4623.toNat, 160, 768]
def k0_off428 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4636 : Index := Scalar.indexCast v12
  let c160_1833 : Index := 160#32
  let c896_1834 : Index := 896#32
  ![v4636.toNat, 160, 896]
def k0_off429 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4649 : Index := Scalar.indexCast v12
  let c160_1837 : Index := 160#32
  let c1024_1838 : Index := 1024#32
  ![v4649.toNat, 160, 1024]
def k0_off430 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4662 : Index := Scalar.indexCast v12
  let c160_1841 : Index := 160#32
  let c1152_1842 : Index := 1152#32
  ![v4662.toNat, 160, 1152]
def k0_off431 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4675 : Index := Scalar.indexCast v12
  let c160_1845 : Index := 160#32
  let c1280_1846 : Index := 1280#32
  ![v4675.toNat, 160, 1280]
def k0_off432 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4688 : Index := Scalar.indexCast v12
  let c160_1849 : Index := 160#32
  let c1408_1850 : Index := 1408#32
  ![v4688.toNat, 160, 1408]
def k0_off433 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4701 : Index := Scalar.indexCast v12
  let c160_1853 : Index := 160#32
  let c1536_1854 : Index := 1536#32
  ![v4701.toNat, 160, 1536]
def k0_off434 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4714 : Index := Scalar.indexCast v12
  let c160_1857 : Index := 160#32
  let c1664_1858 : Index := 1664#32
  ![v4714.toNat, 160, 1664]
def k0_off435 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4727 : Index := Scalar.indexCast v12
  let c160_1861 : Index := 160#32
  let c1792_1862 : Index := 1792#32
  ![v4727.toNat, 160, 1792]
def k0_off436 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4740 : Index := Scalar.indexCast v12
  let c160_1865 : Index := 160#32
  let c1920_1866 : Index := 1920#32
  ![v4740.toNat, 160, 1920]
def k0_off437 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4753 : Index := Scalar.indexCast v12
  let c160_1869 : Index := 160#32
  let c2048_1870 : Index := 2048#32
  ![v4753.toNat, 160, 2048]
def k0_off438 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4766 : Index := Scalar.indexCast v12
  let c160_1873 : Index := 160#32
  let c2176_1874 : Index := 2176#32
  ![v4766.toNat, 160, 2176]
def k0_off439 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4779 : Index := Scalar.indexCast v12
  let c160_1877 : Index := 160#32
  let c2304_1878 : Index := 2304#32
  ![v4779.toNat, 160, 2304]
def k0_off440 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4792 : Index := Scalar.indexCast v12
  let c160_1881 : Index := 160#32
  let c2432_1882 : Index := 2432#32
  ![v4792.toNat, 160, 2432]
def k0_off441 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4805 : Index := Scalar.indexCast v12
  let c160_1885 : Index := 160#32
  let c2560_1886 : Index := 2560#32
  ![v4805.toNat, 160, 2560]
def k0_off442 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4818 : Index := Scalar.indexCast v12
  let c160_1889 : Index := 160#32
  let c2688_1890 : Index := 2688#32
  ![v4818.toNat, 160, 2688]
def k0_off443 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4831 : Index := Scalar.indexCast v12
  let c160_1893 : Index := 160#32
  let c2816_1894 : Index := 2816#32
  ![v4831.toNat, 160, 2816]
def k0_off444 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4844 : Index := Scalar.indexCast v12
  let c160_1897 : Index := 160#32
  let c2944_1898 : Index := 2944#32
  ![v4844.toNat, 160, 2944]
def k0_off445 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4857 : Index := Scalar.indexCast v12
  let c160_1901 : Index := 160#32
  let c3072_1902 : Index := 3072#32
  ![v4857.toNat, 160, 3072]
def k0_off446 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4870 : Index := Scalar.indexCast v12
  let c160_1905 : Index := 160#32
  let c3200_1906 : Index := 3200#32
  ![v4870.toNat, 160, 3200]
def k0_off447 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4883 : Index := Scalar.indexCast v12
  let c160_1909 : Index := 160#32
  let c3328_1910 : Index := 3328#32
  ![v4883.toNat, 160, 3328]
def k0_off448 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v4896 : Index := Scalar.indexCast v12
  let c160_1913 : Index := 160#32
  let c3456_1914 : Index := 3456#32
  ![v4896.toNat, 160, 3456]
def k0_off449 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5451 : Index := Scalar.indexCast v12
  let c192 : Index := 192#32
  let c0_2173 : Index := 0#32
  ![v5451.toNat, 192, 0]
def k0_off450 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5464 : Index := Scalar.indexCast v12
  let c192_2176 : Index := 192#32
  let c128_2177 : Index := 128#32
  ![v5464.toNat, 192, 128]
def k0_off451 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5477 : Index := Scalar.indexCast v12
  let c192_2180 : Index := 192#32
  let c256_2181 : Index := 256#32
  ![v5477.toNat, 192, 256]
def k0_off452 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5490 : Index := Scalar.indexCast v12
  let c192_2184 : Index := 192#32
  let c384_2185 : Index := 384#32
  ![v5490.toNat, 192, 384]
def k0_off453 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5503 : Index := Scalar.indexCast v12
  let c192_2188 : Index := 192#32
  let c512_2189 : Index := 512#32
  ![v5503.toNat, 192, 512]
def k0_off454 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5516 : Index := Scalar.indexCast v12
  let c192_2192 : Index := 192#32
  let c640_2193 : Index := 640#32
  ![v5516.toNat, 192, 640]
def k0_off455 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5529 : Index := Scalar.indexCast v12
  let c192_2196 : Index := 192#32
  let c768_2197 : Index := 768#32
  ![v5529.toNat, 192, 768]
def k0_off456 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5542 : Index := Scalar.indexCast v12
  let c192_2200 : Index := 192#32
  let c896_2201 : Index := 896#32
  ![v5542.toNat, 192, 896]
def k0_off457 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5555 : Index := Scalar.indexCast v12
  let c192_2204 : Index := 192#32
  let c1024_2205 : Index := 1024#32
  ![v5555.toNat, 192, 1024]
def k0_off458 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5568 : Index := Scalar.indexCast v12
  let c192_2208 : Index := 192#32
  let c1152_2209 : Index := 1152#32
  ![v5568.toNat, 192, 1152]
def k0_off459 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5581 : Index := Scalar.indexCast v12
  let c192_2212 : Index := 192#32
  let c1280_2213 : Index := 1280#32
  ![v5581.toNat, 192, 1280]
def k0_off460 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5594 : Index := Scalar.indexCast v12
  let c192_2216 : Index := 192#32
  let c1408_2217 : Index := 1408#32
  ![v5594.toNat, 192, 1408]
def k0_off461 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5607 : Index := Scalar.indexCast v12
  let c192_2220 : Index := 192#32
  let c1536_2221 : Index := 1536#32
  ![v5607.toNat, 192, 1536]
def k0_off462 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5620 : Index := Scalar.indexCast v12
  let c192_2224 : Index := 192#32
  let c1664_2225 : Index := 1664#32
  ![v5620.toNat, 192, 1664]
def k0_off463 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5633 : Index := Scalar.indexCast v12
  let c192_2228 : Index := 192#32
  let c1792_2229 : Index := 1792#32
  ![v5633.toNat, 192, 1792]
def k0_off464 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5646 : Index := Scalar.indexCast v12
  let c192_2232 : Index := 192#32
  let c1920_2233 : Index := 1920#32
  ![v5646.toNat, 192, 1920]
def k0_off465 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5659 : Index := Scalar.indexCast v12
  let c192_2236 : Index := 192#32
  let c2048_2237 : Index := 2048#32
  ![v5659.toNat, 192, 2048]
def k0_off466 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5672 : Index := Scalar.indexCast v12
  let c192_2240 : Index := 192#32
  let c2176_2241 : Index := 2176#32
  ![v5672.toNat, 192, 2176]
def k0_off467 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5685 : Index := Scalar.indexCast v12
  let c192_2244 : Index := 192#32
  let c2304_2245 : Index := 2304#32
  ![v5685.toNat, 192, 2304]
def k0_off468 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5698 : Index := Scalar.indexCast v12
  let c192_2248 : Index := 192#32
  let c2432_2249 : Index := 2432#32
  ![v5698.toNat, 192, 2432]
def k0_off469 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5711 : Index := Scalar.indexCast v12
  let c192_2252 : Index := 192#32
  let c2560_2253 : Index := 2560#32
  ![v5711.toNat, 192, 2560]
def k0_off470 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5724 : Index := Scalar.indexCast v12
  let c192_2256 : Index := 192#32
  let c2688_2257 : Index := 2688#32
  ![v5724.toNat, 192, 2688]
def k0_off471 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5737 : Index := Scalar.indexCast v12
  let c192_2260 : Index := 192#32
  let c2816_2261 : Index := 2816#32
  ![v5737.toNat, 192, 2816]
def k0_off472 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5750 : Index := Scalar.indexCast v12
  let c192_2264 : Index := 192#32
  let c2944_2265 : Index := 2944#32
  ![v5750.toNat, 192, 2944]
def k0_off473 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5763 : Index := Scalar.indexCast v12
  let c192_2268 : Index := 192#32
  let c3072_2269 : Index := 3072#32
  ![v5763.toNat, 192, 3072]
def k0_off474 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5776 : Index := Scalar.indexCast v12
  let c192_2272 : Index := 192#32
  let c3200_2273 : Index := 3200#32
  ![v5776.toNat, 192, 3200]
def k0_off475 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5789 : Index := Scalar.indexCast v12
  let c192_2276 : Index := 192#32
  let c3328_2277 : Index := 3328#32
  ![v5789.toNat, 192, 3328]
def k0_off476 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v5802 : Index := Scalar.indexCast v12
  let c192_2280 : Index := 192#32
  let c3456_2281 : Index := 3456#32
  ![v5802.toNat, 192, 3456]
def k0_off477 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6357 : Index := Scalar.indexCast v12
  let c224 : Index := 224#32
  let c0_2540 : Index := 0#32
  ![v6357.toNat, 224, 0]
def k0_off478 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6370 : Index := Scalar.indexCast v12
  let c224_2543 : Index := 224#32
  let c128_2544 : Index := 128#32
  ![v6370.toNat, 224, 128]
def k0_off479 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6383 : Index := Scalar.indexCast v12
  let c224_2547 : Index := 224#32
  let c256_2548 : Index := 256#32
  ![v6383.toNat, 224, 256]
def k0_off480 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6396 : Index := Scalar.indexCast v12
  let c224_2551 : Index := 224#32
  let c384_2552 : Index := 384#32
  ![v6396.toNat, 224, 384]
def k0_off481 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6409 : Index := Scalar.indexCast v12
  let c224_2555 : Index := 224#32
  let c512_2556 : Index := 512#32
  ![v6409.toNat, 224, 512]
def k0_off482 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6422 : Index := Scalar.indexCast v12
  let c224_2559 : Index := 224#32
  let c640_2560 : Index := 640#32
  ![v6422.toNat, 224, 640]
def k0_off483 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6435 : Index := Scalar.indexCast v12
  let c224_2563 : Index := 224#32
  let c768_2564 : Index := 768#32
  ![v6435.toNat, 224, 768]
def k0_off484 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6448 : Index := Scalar.indexCast v12
  let c224_2567 : Index := 224#32
  let c896_2568 : Index := 896#32
  ![v6448.toNat, 224, 896]
def k0_off485 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6461 : Index := Scalar.indexCast v12
  let c224_2571 : Index := 224#32
  let c1024_2572 : Index := 1024#32
  ![v6461.toNat, 224, 1024]
def k0_off486 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6474 : Index := Scalar.indexCast v12
  let c224_2575 : Index := 224#32
  let c1152_2576 : Index := 1152#32
  ![v6474.toNat, 224, 1152]
def k0_off487 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6487 : Index := Scalar.indexCast v12
  let c224_2579 : Index := 224#32
  let c1280_2580 : Index := 1280#32
  ![v6487.toNat, 224, 1280]
def k0_off488 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6500 : Index := Scalar.indexCast v12
  let c224_2583 : Index := 224#32
  let c1408_2584 : Index := 1408#32
  ![v6500.toNat, 224, 1408]
def k0_off489 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6513 : Index := Scalar.indexCast v12
  let c224_2587 : Index := 224#32
  let c1536_2588 : Index := 1536#32
  ![v6513.toNat, 224, 1536]
def k0_off490 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6526 : Index := Scalar.indexCast v12
  let c224_2591 : Index := 224#32
  let c1664_2592 : Index := 1664#32
  ![v6526.toNat, 224, 1664]
def k0_off491 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6539 : Index := Scalar.indexCast v12
  let c224_2595 : Index := 224#32
  let c1792_2596 : Index := 1792#32
  ![v6539.toNat, 224, 1792]
def k0_off492 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6552 : Index := Scalar.indexCast v12
  let c224_2599 : Index := 224#32
  let c1920_2600 : Index := 1920#32
  ![v6552.toNat, 224, 1920]
def k0_off493 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6565 : Index := Scalar.indexCast v12
  let c224_2603 : Index := 224#32
  let c2048_2604 : Index := 2048#32
  ![v6565.toNat, 224, 2048]
def k0_off494 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6578 : Index := Scalar.indexCast v12
  let c224_2607 : Index := 224#32
  let c2176_2608 : Index := 2176#32
  ![v6578.toNat, 224, 2176]
def k0_off495 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6591 : Index := Scalar.indexCast v12
  let c224_2611 : Index := 224#32
  let c2304_2612 : Index := 2304#32
  ![v6591.toNat, 224, 2304]
def k0_off496 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6604 : Index := Scalar.indexCast v12
  let c224_2615 : Index := 224#32
  let c2432_2616 : Index := 2432#32
  ![v6604.toNat, 224, 2432]
def k0_off497 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6617 : Index := Scalar.indexCast v12
  let c224_2619 : Index := 224#32
  let c2560_2620 : Index := 2560#32
  ![v6617.toNat, 224, 2560]
def k0_off498 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6630 : Index := Scalar.indexCast v12
  let c224_2623 : Index := 224#32
  let c2688_2624 : Index := 2688#32
  ![v6630.toNat, 224, 2688]
def k0_off499 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6643 : Index := Scalar.indexCast v12
  let c224_2627 : Index := 224#32
  let c2816_2628 : Index := 2816#32
  ![v6643.toNat, 224, 2816]
def k0_off500 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6656 : Index := Scalar.indexCast v12
  let c224_2631 : Index := 224#32
  let c2944_2632 : Index := 2944#32
  ![v6656.toNat, 224, 2944]
def k0_off501 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6669 : Index := Scalar.indexCast v12
  let c224_2635 : Index := 224#32
  let c3072_2636 : Index := 3072#32
  ![v6669.toNat, 224, 3072]
def k0_off502 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6682 : Index := Scalar.indexCast v12
  let c224_2639 : Index := 224#32
  let c3200_2640 : Index := 3200#32
  ![v6682.toNat, 224, 3200]
def k0_off503 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6695 : Index := Scalar.indexCast v12
  let c224_2643 : Index := 224#32
  let c3328_2644 : Index := 3328#32
  ![v6695.toNat, 224, 3328]
def k0_off504 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v6708 : Index := Scalar.indexCast v12
  let c224_2647 : Index := 224#32
  let c3456_2648 : Index := 3456#32
  ![v6708.toNat, 224, 3456]
def cc0_transform_0 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S256x2176 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2176x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S3x1024x2176 : Shape := ⟨3, ![3, 1024, 2176]⟩
abbrev S3x1024x1 : Shape := ⟨3, ![3, 1024, 1]⟩
abbrev S2176x3584 : Shape := ⟨2, ![2176, 3584]⟩
abbrev S3584 : Shape := ⟨1, ![3584]⟩
abbrev S3x1024x3584 : Shape := ⟨3, ![3, 1024, 3584]⟩
abbrev S3072x2176 : Shape := ⟨2, ![3072, 2176]⟩
abbrev S3072x1 : Shape := ⟨2, ![3072, 1]⟩
abbrev S1x3584 : Shape := ⟨2, ![1, 3584]⟩
abbrev S3072x3584 : Shape := ⟨2, ![3072, 3584]⟩
abbrev S3072 : Shape := ⟨1, ![3072]⟩
abbrev S1x254 : Shape := ⟨2, ![1, 254]⟩
abbrev S3072x254 : Shape := ⟨2, ![3072, 254]⟩

abbrev nBuf : Space → Nat
  | .hbm => 17
  | .vmem => 9
  | .smem => 0
  | _ => 0

abbrev bufTy : (tb : Table) → Fin (tcTables nBuf tb) → BufTy
  | .hbm, ⟨0, _⟩ => ⟨S3x1024x2176, .fp8e4m3⟩
  | .hbm, ⟨1, _⟩ => ⟨S3x1024x1, .f32⟩
  | .hbm, ⟨2, _⟩ => ⟨S2176x3584, .fp8e4m3⟩
  | .hbm, ⟨3, _⟩ => ⟨S3584, .f32⟩
  | .hbm, ⟨4, _⟩ => ⟨S3x1024x3584, .bf16⟩
  | .hbm, ⟨5, _⟩ => ⟨S3584, .bf16⟩
  | .hbm, ⟨6, _⟩ => ⟨S3072x2176, .fp8e4m3⟩
  | .hbm, ⟨7, _⟩ => ⟨S3072x1, .f32⟩
  | .hbm, ⟨8, _⟩ => ⟨S1x3584, .f32⟩
  | .hbm, ⟨9, _⟩ => ⟨S3072x3584, .bf16⟩
  | .hbm, ⟨10, _⟩ => ⟨S1x3584, .bf16⟩
  | .hbm, ⟨11, _⟩ => ⟨S3072x3584, .bf16⟩
  | .hbm, ⟨12, _⟩ => ⟨S3072x3584, .fp8e4m3⟩
  | .hbm, ⟨13, _⟩ => ⟨S3072x1, .f32⟩
  | .hbm, ⟨14, _⟩ => ⟨S3x1024x3584, .bf16⟩
  | .hbm, ⟨15, _⟩ => ⟨S3x1024x3584, .fp8e4m3⟩
  | .hbm, ⟨16, _⟩ => ⟨S3x1024x1, .f32⟩
  | .local _ .vmem, ⟨0, _⟩ => ⟨S3072x2176, .fp8e4m3⟩
  | .local _ .vmem, ⟨1, _⟩ => ⟨S3072x1, .f32⟩
  | .local _ .vmem, ⟨2, _⟩ => ⟨S2176x3584, .fp8e4m3⟩
  | .local _ .vmem, ⟨3, _⟩ => ⟨S1x3584, .f32⟩
  | .local _ .vmem, ⟨4, _⟩ => ⟨S3072x3584, .bf16⟩
  | .local _ .vmem, ⟨5, _⟩ => ⟨S1x3584, .bf16⟩
  | .local _ .vmem, ⟨6, _⟩ => ⟨S3072x3584, .bf16⟩
  | .local _ .vmem, ⟨7, _⟩ => ⟨S3072x3584, .fp8e4m3⟩
  | .local _ .vmem, ⟨8, _⟩ => ⟨S3072x1, .f32⟩
  | _, _ => ⟨S3x1024x2176, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S3072x2176 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2176x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.K.Prog.lean ====
module

public import proofs.«01_k».proof.Proof.Gen.KernelIdeal

@[expose] public section

noncomputable section

namespace Cert.KernelIdeal.Gen

open Idealize.ShloMosaic Idealize.SL.Sem

variable {F : FTy → Type} [FloatOps F]

open Cert.KernelIdeal.Facts Cert.KernelIdeal.Facts₀ Cert.KernelIdeal.Shapes1.Facts₀ Cert.KernelIdeal.K0.Facts₀

/-- The programs the body is made of. -/
abbrev PP (F : FTy → Type) [FloatOps F] : Type 1 := Prog (TpuEff nD τ sig (Elt F) Λ₀ .tc) PUnit

/-- The scratch slot a quantising point reads. -/
def rslot (i : grid0.Coords) : ℕ :=
  (Scalar.indexCast (Scalar.subi 1#32 (Scalar.remsi (BitVec.ofNat 32 (i 0).val) 2#32))).toNat

/-- The scratch slot a projecting point writes. -/
def wslot (i : grid0.Coords) : ℕ :=
  (Scalar.indexCast (Scalar.remsi (BitVec.ofNat 32 (i 0).val) 2#32)).toNat

theorem inbR : ∀ (i : grid0.Coords) (g : Fin 8) (t : Fin 28) (a : Fin 3),
    (![rslot i, 32 * g.val, 128 * t.val] : Fin 3 → ℕ) a + S1x32x128.size a ≤ S2x256x3584.size a := by decide +kernel

theorem inbG : ∀ (t : Fin 28) (a : Fin 2), (![0, 128 * t.val] : Fin 2 → ℕ) a + S1x128.size a ≤ S1x3584.size a := by
  decide +kernel

theorem inbY : ∀ (g : Fin 8) (t : Fin 28) (a : Fin 2),
    (![32 * g.val, 128 * t.val] : Fin 2 → ℕ) a + S32x128.size a ≤ S256x3584.size a := by decide +kernel

theorem packedY : ∀ (g : Fin 8) (t : Fin 28),
    (Rect.unit (s := S256x3584) ![32 * g.val, 128 * t.val] S32x128.size (inbY g t)).PackedRows (EltTy.packing .fp8e4m3) := by
  decide +kernel

/-- The rectangle of the scratch a quantising point reads for rows `32 g …` and columns `128 t …`. -/
abbrev rR (i : grid0.Coords) (g : Fin 8) (t : Fin 28) : Rect S2x256x3584 :=
  Rect.unit (s := S2x256x3584) ![rslot i, 32 * g.val, 128 * t.val] S1x32x128.size (inbR i g t)
abbrev rG (t : Fin 28) : Rect S1x3584 := Rect.unit (s := S1x3584) ![0, 128 * t.val] S1x128.size (inbG t)
abbrev rY (g : Fin 8) (t : Fin 28) : Rect S256x3584 :=
  Rect.unit (s := S256x3584) ![32 * g.val, 128 * t.val] S32x128.size (inbY g t)

section Values

def vR (x : Vec F S1x32x128 .bf16) : FVec F S32x128 .f32 :=
  extf .f32 (shapeCast S32x128 (x : FVec F S1x32x128 .bf16) shapeCasts_S1x32x128_S32x128) bitsLt_bf16_f32
def vG (x : Vec F S1x128 .bf16) : FVec F S32x128 .f32 :=
  broadcastTo S32x128 (extf .f32 (shapeCast S1x128 (x : FVec F S1x128 .bf16) shapeCasts_S1x128_S1x128) bitsLt_bf16_f32 : FVec F S1x128 .f32)
    broadcasts_S1x128_S32x128
def vZero : FVec F S32x128 .f32 := broadcast S32x128 (Scalar.ofBits .f32 0x00000000#32 : F .f32)
def vSsq (s : FVec F S32x128 .f32) (x : Vec F S1x32x128 .bf16) : FVec F S32x128 .f32 := addf s (mulf (vR x) (vR x))
def vAmax (a : FVec F S32x128 .f32) (x : Vec F S1x32x128 .bf16) (g : Vec F S1x128 .bf16) : FVec F S32x128 .f32 :=
  maximumf a (absf (mulf (vR x) (vG g)))
def vInv (s : FVec F S32x128 .f32) : FVec F S32x1 .f32 :=
  rsqrt (addf (divf (shapeCast S32x1 (multiReduction .add [1] S32 s 0x00000000#32 reduces_S32x128_S32 (.inl rfl) rfl) shapeCasts_S32_S32x1 : FVec F S32x1 .f32)
    (broadcast S32x1 (Scalar.ofBits .f32 0x45600000#32 : F .f32))) (broadcast S32x1 (Scalar.ofBits .f32 0x358637BD#32 : F .f32)))
def vV (inv : FVec F S32x1 .f32) (a : FVec F S32x128 .f32) : FVec F S32x128 .f32 :=
  broadcastTo S32x128 (shapeCast S32x1 (mulf (mulf (shapeCast S32x1
      (multiReduction .maximumf [1] S32 a 0xFF800000#32 reduces_S32x128_S32 (.inl rfl) rfl) shapeCasts_S32_S32x1 : FVec F S32x1 .f32) inv)
    (broadcast S32x1 (Scalar.ofBits .f32 0x3B124925#32 : F .f32))) shapeCasts_S32x1_S32x1 : FVec F S32x1 .f32) broadcasts_S32x1_S32x128
/-- One step of the search for the exponent. -/
def vBit (v : FVec F S32x128 .f32) (b : IVec S32x128 32) (step : BitVec 32) : IVec S32x128 32 :=
  select (cmpf .olt v (bitcastToFloat .f32 (shli (addi b (broadcast S32x128 step)) (broadcast S32x128 23#32)) : FVec F S32x128 .f32)) b
    (addi b (broadcast S32x128 step))
def vBits (v : FVec F S32x128 .f32) : IVec S32x128 32 :=
  vBit v (vBit v (vBit v (vBit v (vBit v (vBit v (vBit v (vBit v (broadcast S32x128 0#32) 128#32) 64#32) 32#32) 16#32) 8#32) 4#32) 2#32) 1#32
def vE (v : FVec F S32x128 .f32) : IVec S32x128 32 :=
  select (cmpf .oeq v (broadcast S32x128 (Scalar.ofBits .f32 0x00000000#32 : F .f32))) (broadcast S32x128 0#32)
    (subi (vBits v) (broadcast S32x128 126#32))
def vPow (e : IVec S32x128 32) : FVec F S32x128 .f32 :=
  bitcastToFloat .f32 (shli (addi e (broadcast S32x128 127#32)) (broadcast S32x128 23#32))
def vMul (inv : FVec F S32x1 .f32) (e : IVec S32x128 32) : FVec F S32x128 .f32 :=
  mulf (broadcastTo S32x128 (shapeCast S32x1 inv shapeCasts_S32x1_S32x1 : FVec F S32x1 .f32) broadcasts_S32x1_S32x128)
    (vPow (subi (broadcast S32x128 0#32) e))
def vY (m : FVec F S32x128 .f32) (x : Vec F S1x32x128 .bf16) (g : Vec F S1x128 .bf16) : FVec F S32x128 .fp8e4m3 :=
  truncf .fp8e4m3 (minimumf (broadcast S32x128 (Scalar.ofBits .f32 0x43E00000#32 : F .f32))
    (maximumf (broadcast S32x128 (Scalar.ofBits .f32 0xC3E00000#32 : F .f32)) (mulf (mulf (vR x) m) (vG g)))) bitsLt_fp8e4m3_f32
def vS (a b c d : FVec F S32x128 .f32) : FVec F S1x1x128 .f32 :=
  shapeCast S1x1x128 (extractStridedSlice S1x128 ![0, 0] (transpose S128x128 [1, 0]
    (concatenate S128x128 0 [⟨S32x128, a⟩, ⟨S32x128, b⟩, ⟨S32x128, c⟩, ⟨S32x128, d⟩] concatenates_S32x128_S32x128_S32x128_S32x128_S128x128_d0 : FVec F S128x128 .f32)
    transposes_S128x128_p1_0_S128x128 : FVec F S128x128 .f32) slices_S128x128_o0_0_S1x128 : FVec F S1x128 .f32) shapeCasts_S1x128_S1x1x128

end Values

section Quant

variable (i : grid0.Coords) (arg6 : Memref sig .tc .vmem S1x3584 .bf16)
  (arg8 : Memref sig .tc .vmem S256x3584 .fp8e4m3) (harg8 : arg8.IsWhole)
  (arg9 : Memref sig .tc .vmem S1x2x128 .f32) (arg10 : Memref sig .tc .vmem S2x256x3584 .bf16)

/-- Reads one tile of the scratch. -/
def ldR (g : Fin 8) (t : Fin 28) (k : Vec F S1x32x128 .bf16 → PP F) : PP F :=
  .op (.load arg10 (rR i g t).toLoadRect (View.loadsAt_vmem h_S1x32x128)) k
def ldG (t : Fin 28) (k : Vec F S1x128 .bf16 → PP F) : PP F :=
  .op (.load arg6 (rG t).toLoadRect (View.loadsAt_vmem h_S1x128)) k
def stY (g : Fin 8) (t : Fin 28) (v : FVec F S32x128 .fp8e4m3) (k : PP F) : PP F :=
  .op (.load arg8 (rY g t).toLoadRect (View.loadsAt_vmem h_S32x128)) fun _ =>
  .op (.store arg8 (rY g t) v Finset.univ (View.stores_vmem h_S32x128 (harg8.storeExact_slice rfl _ (packedY g t)) (fun _ => rfl)) (.inl rfl)) fun _ => k

/-- The first pass over a group of rows: the last `n` tiles. -/
def statLoop (g : Fin 8) : (n : ℕ) → FVec F S32x128 .f32 → FVec F S32x128 .f32 →
    (FVec F S32x128 .f32 → FVec F S32x128 .f32 → PP F) → PP F
  | 0, s, a, k => k s a
  | n + 1, s, a, k => ldR i arg10 g ⟨27 - n, by omega⟩ fun x => ldG arg6 ⟨27 - n, by omega⟩ fun gm =>
      statLoop g n (vSsq s x) (vAmax a x gm) k

/-- The second pass over a group of rows: the last `n` tiles. -/
def quantLoop (g : Fin 8) (m : FVec F S32x128 .f32) : (n : ℕ) → PP F → PP F
  | 0, k => k
  | n + 1, k => ldR i arg10 g ⟨27 - n, by omega⟩ fun x => ldG arg6 ⟨27 - n, by omega⟩ fun gm =>
      stY arg8 harg8 g ⟨27 - n, by omega⟩ (vY m x gm) (quantLoop g m n k)

/-- One group of rows; goes on at its scale. -/
def group (g : Fin 8) (k : FVec F S32x128 .f32 → PP F) : PP F :=
  statLoop i arg6 arg10 g 28 vZero vZero fun s a =>
    quantLoop i arg6 arg8 harg8 arg10 g (vMul (vInv s) (vE (vV (vInv s) a))) 28 (k (vPow (vE (vV (vInv s) a))))

theorem inbS : ∀ (k : Fin 2) (a : Fin 3), (![0, k.val, 0] : Fin 3 → ℕ) a + S1x1x128.size a ≤ S1x2x128.size a := by
  decide +kernel

abbrev rS (k : Fin 2) : Rect S1x2x128 := Rect.unit (s := S1x2x128) ![0, k.val, 0] S1x1x128.size (inbS k)

def stS (j : Fin 2) (v : FVec F S1x1x128 .f32) (k : PP F) : PP F :=
  .op (.load arg9 (rS j).toLoadRect (View.loadsAt_vmem h_S1x1x128)) fun _ =>
  .op (.store arg9 (rS j) v Finset.univ (View.stores_vmem_bits_univ h_S1x1x128 rfl) (.inl rfl)) fun _ => k

/-- The quantising half of the body. -/
def quantProg : PP F :=
  group i arg6 arg8 harg8 arg10 0 fun p0 => group i arg6 arg8 harg8 arg10 1 fun p1 =>
  group i arg6 arg8 harg8 arg10 2 fun p2 => group i arg6 arg8 harg8 arg10 3 fun p3 =>
  group i arg6 arg8 harg8 arg10 4 fun p4 => group i arg6 arg8 harg8 arg10 5 fun p5 =>
  group i arg6 arg8 harg8 arg10 6 fun p6 => group i arg6 arg8 harg8 arg10 7 fun p7 =>
  stS arg9 0 (vS p0 p1 p2 p3) (stS arg9 1 (vS p4 p5 p6 p7) (.ret ⟨⟩))

end Quant

section Project

theorem inbW : ∀ (j : Fin 7) (a : Fin 2), (![0, 512 * j.val] : Fin 2 → ℕ) a + S2176x512.size a ≤ S2176x3584.size a := by
  decide +kernel
theorem inbC : ∀ (t : Fin 28) (a : Fin 2), (![0, 128 * t.val] : Fin 2 → ℕ) a + S256x128.size a ≤ S256x3584.size a := by
  decide +kernel
theorem packedC : ∀ (t : Fin 28),
    (Rect.unit (s := S256x3584) ![0, 128 * t.val] S256x128.size (inbC t)).PackedRows (EltTy.packing .bf16) := by decide +kernel
theorem inbP : ∀ (i : grid0.Coords) (t : Fin 28) (a : Fin 3),
    (![wslot i, 0, 128 * t.val] : Fin 3 → ℕ) a + S1x256x128.size a ≤ S2x256x3584.size a := by decide +kernel
theorem packedP : ∀ (i : grid0.Coords) (t : Fin 28),
    (Rect.unit (s := S2x256x3584) ![wslot i, 0, 128 * t.val] S1x256x128.size (inbP i t)).PackedRows (EltTy.packing .bf16) := by
  decide +kernel

abbrev rW (j : Fin 7) : Rect S2176x3584 := Rect.unit (s := S2176x3584) ![0, 512 * j.val] S2176x512.size (inbW j)
abbrev rC (t : Fin 28) : Rect S256x3584 := Rect.unit (s := S256x3584) ![0, 128 * t.val] S256x128.size (inbC t)
abbrev rP (i : grid0.Coords) (t : Fin 28) : Rect S2x256x3584 :=
  Rect.unit (s := S2x256x3584) ![wslot i, 0, 128 * t.val] S1x256x128.size (inbP i t)
abbrev rX : Rect S256x2176 := Rect.unit (s := S256x2176) ![0, 0] S256x2176.size inb_S256x2176_S256x2176_0_0
abbrev rXS : Rect S1x2x128 := Rect.unit (s := S1x2x128) ![0, 0, 0] S1x2x128.size inb_S1x2x128_S1x2x128_0_0_0

/-- The rows' scales as a column of lanes. -/
def vXs (x : Vec F S1x2x128 .f32) : FVec F S256x128 .f32 :=
  concatenate S256x128 0 [
    ⟨S128x128, transpose S128x128 [1, 0] (broadcastTo S128x128 (shapeCast S1x128 (shapeCast S1x128 (extractStridedSlice S1x1x128 ![0, 0, 0]
      (shapeCast S1x2x128 (x : FVec F S1x2x128 .f32) shapeCasts_S1x2x128_S1x2x128 : FVec F S1x2x128 .f32) slices_S1x2x128_o0_0_0_S1x1x128 : FVec F S1x1x128 .f32)
      shapeCasts_S1x1x128_S1x128 : FVec F S1x128 .f32) shapeCasts_S1x128_S1x128 : FVec F S1x128 .f32) broadcasts_S1x128_S128x128 : FVec F S128x128 .f32)
      transposes_S128x128_p1_0_S128x128⟩,
    ⟨S128x128, transpose S128x128 [1, 0] (broadcastTo S128x128 (shapeCast S1x128 (shapeCast S1x128 (extractStridedSlice S1x1x128 ![0, 1, 0]
      (shapeCast S1x2x128 (x : FVec F S1x2x128 .f32) shapeCasts_S1x2x128_S1x2x128 : FVec F S1x2x128 .f32) slices_S1x2x128_o0_1_0_S1x1x128 : FVec F S1x1x128 .f32)
      shapeCasts_S1x1x128_S1x128 : FVec F S1x128 .f32) shapeCasts_S1x128_S1x128 : FVec F S1x128 .f32) broadcasts_S1x128_S128x128 : FVec F S128x128 .f32)
      transposes_S128x128_p1_0_S128x128⟩] concatenates_S128x128_S128x128_S256x128_d0

def vAcc (x : Vec F S256x2176 .fp8e4m3) (w : Vec F S2176x512 .fp8e4m3) : FVec F S256x512 .f32 :=
  matmul dot_S256x2176_S2176x512_S256x512_1_0_0_1_n_n none
    (shapeCast S256x2176 (x : FVec F S256x2176 .fp8e4m3) shapeCasts_S256x2176_S256x2176 : FVec F S256x2176 .fp8e4m3) w
    (constant S256x512 .f32 0x00000000#32)

/-- A tile of the result, from its slice of the product. -/
def vOut (a xs : FVec F S256x128 .f32) (ws : Vec F S1x128 .f32) (res : Vec F S256x128 .bf16) : FVec F S256x128 .bf16 :=
  truncf .bf16 (addf (mulf (mulf a xs) (broadcastTo S256x128 (shapeCast S1x128 (ws : FVec F S1x128 .f32) shapeCasts_S1x128_S1x128 : FVec F S1x128 .f32)
    broadcasts_S1x128_S256x128)) (extf .f32 (shapeCast S256x128 (res : FVec F S256x128 .bf16) shapeCasts_S256x128_S256x128 : FVec F S256x128 .bf16)
    bitsLt_bf16_f32)) bitsLt_bf16_f32

theorem slicesA : ∀ q : Fin 4, S256x512.Slices ![0, 128 * q.val] S256x128 := by decide +kernel

def vSl (q : Fin 4) (acc : FVec F S256x512 .f32) : FVec F S256x128 .f32 := extractStridedSlice S256x128 ![0, 128 * q.val] acc (slicesA q)

variable (i : grid0.Coords) (arg1 : Memref sig .tc .vmem S256x2176 .fp8e4m3) (arg2 : Memref sig .tc .vmem S1x2x128 .f32)
  (arg3 : Memref sig .tc .vmem S2176x3584 .fp8e4m3) (arg4 : Memref sig .tc .vmem S1x3584 .f32)
  (arg5 : Memref sig .tc .vmem S256x3584 .bf16) (arg7 : Memref sig .tc .vmem S256x3584 .bf16) (harg7 : arg7.IsWhole)
  (arg10 : Memref sig .tc .vmem S2x256x3584 .bf16) (harg10 : arg10.IsWhole)

/-- Writes one tile to the result and to the scratch. -/
def stP (t : Fin 28) (v : FVec F S256x128 .bf16) (k : PP F) : PP F :=
  .op (.load arg7 (rC t).toLoadRect (View.loadsAt_vmem h_S256x128)) fun _ =>
  .op (.store arg7 (rC t) v Finset.univ (View.stores_vmem h_S256x128 (harg7.storeExact_slice rfl _ (packedC t)) (fun _ => rfl)) (.inl rfl)) fun _ =>
  .op (.load arg10 (rP i t).toLoadRect (View.loadsAt_vmem h_S1x256x128)) fun _ =>
  .op (.store arg10 (rP i t) (shapeCast S1x256x128 v shapeCasts_S256x128_S1x256x128 : FVec F S1x256x128 .bf16) Finset.univ
    (View.stores_vmem h_S1x256x128 (harg10.storeExact_slice rfl _ (packedP i t)) (fun _ => rfl)) (.inl rfl)) fun _ => k

/-- The tile `q` of chunk `j` as one of the 28 tiles. -/
def tileOf (j : Fin 7) (q : Fin 4) : Fin 28 := ⟨4 * j.val + q.val, by omega⟩

/-- The last `n` tiles of a chunk of 512 columns. -/
def tileLoop (j : Fin 7) (xs : FVec F S256x128 .f32) (acc : FVec F S256x512 .f32) : (n : ℕ) → PP F → PP F
  | 0, k => k
  | n + 1, k =>
    .op (.load arg4 (rG (tileOf j ⟨3 - n, by omega⟩)).toLoadRect (View.loadsAt_vmem h_S1x128)) fun ws =>
    .op (.load arg5 (rC (tileOf j ⟨3 - n, by omega⟩)).toLoadRect (View.loadsAt_vmem h_S256x128)) fun res =>
    stP i arg7 harg7 arg10 harg10 (tileOf j ⟨3 - n, by omega⟩) (vOut (vSl ⟨3 - n, by omega⟩ acc) xs ws res) (tileLoop j xs acc n k)

/-- The last `n` chunks. -/
def chunkLoop (xs : FVec F S256x128 .f32) : (n : ℕ) → PP F → PP F
  | 0, k => k
  | n + 1, k =>
    .op (.load arg1 rX.toLoadRect (View.loadsAt_vmem h_S256x2176)) fun x =>
    .op (.load arg3 (rW ⟨6 - n, by omega⟩).toLoadRect (View.loadsAt_vmem h_S2176x512)) fun w =>
    tileLoop i arg4 arg5 arg7 harg7 arg10 harg10 ⟨6 - n, by omega⟩ xs (vAcc x w) 4 (chunkLoop xs n k)

/-- The projecting half of the body. -/
def projProg (k : PP F) : PP F :=
  .op (.load arg2 rXS.toLoadRect (View.loadsAt_vmem h_S1x2x128)) fun x =>
  chunkLoop i arg1 arg3 arg4 arg5 arg7 harg7 arg10 harg10 (vXs x) 7 k

end Project

end Cert.KernelIdeal.Gen

end
-- ==== Proof.K.EqC.lean ====
module

public import proofs.«01_k».proof.Proof.K.Prog

@[expose] public section

noncomputable section

namespace Cert.KernelIdeal.Gen

open Idealize.ShloMosaic Idealize.SL.Sem

variable {F : FTy → Type} [FloatOps F]

set_option maxRecDepth 100000 in
set_option maxHeartbeats 0 in
theorem body_C (i : grid0.Coords) (arg1 : Memref sig .tc .vmem S256x2176 .fp8e4m3) (harg1 : arg1.IsWhole) (arg2 : Memref sig .tc .vmem S1x2x128 .f32) (harg2 : arg2.IsWhole) (arg3 : Memref sig .tc .vmem S2176x3584 .fp8e4m3) (harg3 : arg3.IsWhole) (arg4 : Memref sig .tc .vmem S1x3584 .f32) (harg4 : arg4.IsWhole) (arg5 : Memref sig .tc .vmem S256x3584 .bf16) (harg5 : arg5.IsWhole) (arg6 : Memref sig .tc .vmem S1x3584 .bf16) (harg6 : arg6.IsWhole) (arg7 : Memref sig .tc .vmem S256x3584 .bf16) (harg7 : arg7.IsWhole) (arg8 : Memref sig .tc .vmem S256x3584 .fp8e4m3) (harg8 : arg8.IsWhole) (arg9 : Memref sig .tc .vmem S1x2x128 .f32) (harg9 : arg9.IsWhole) (arg10 : Memref sig .tc .vmem S2x256x3584 .bf16) (harg10 : arg10.IsWhole)
    (h1 : ¬ k0_cond1 i = 1#1) (h2 : ¬ k0_cond2 i = 1#1) (h3 : k0_cond3 i = 1#1) :
    cc0_oproj_rmsnorm_quant (F := F) i arg1 harg1 arg2 harg2 arg3 harg3 arg4 harg4 arg5 harg5 arg6 harg6 arg7 harg7 arg8 harg8 arg9 harg9 arg10 harg10
      = quantProg i arg6 arg8 harg8 arg9 arg10 := by
  unfold cc0_oproj_rmsnorm_quant
  rw [dif_neg h1, dif_neg h2, dif_pos h3]
  rfl

set_option maxRecDepth 100000 in
set_option maxHeartbeats 0 in
theorem body_A (i : grid0.Coords) (arg1 : Memref sig .tc .vmem S256x2176 .fp8e4m3) (harg1 : arg1.IsWhole) (arg2 : Memref sig .tc .vmem S1x2x128 .f32) (harg2 : arg2.IsWhole) (arg3 : Memref sig .tc .vmem S2176x3584 .fp8e4m3) (harg3 : arg3.IsWhole) (arg4 : Memref sig .tc .vmem S1x3584 .f32) (harg4 : arg4.IsWhole) (arg5 : Memref sig .tc .vmem S256x3584 .bf16) (harg5 : arg5.IsWhole) (arg6 : Memref sig .tc .vmem S1x3584 .bf16) (harg6 : arg6.IsWhole) (arg7 : Memref sig .tc .vmem S256x3584 .bf16) (harg7 : arg7.IsWhole) (arg8 : Memref sig .tc .vmem S256x3584 .fp8e4m3) (harg8 : arg8.IsWhole) (arg9 : Memref sig .tc .vmem S1x2x128 .f32) (harg9 : arg9.IsWhole) (arg10 : Memref sig .tc .vmem S2x256x3584 .bf16) (harg10 : arg10.IsWhole)
    (h1 : k0_cond1 i = 1#1) (h2 : ¬ k0_cond2 i = 1#1) (h3 : ¬ k0_cond3 i = 1#1) :
    cc0_oproj_rmsnorm_quant (F := F) i arg1 harg1 arg2 harg2 arg3 harg3 arg4 harg4 arg5 harg5 arg6 harg6 arg7 harg7 arg8 harg8 arg9 harg9 arg10 harg10
      = projProg i arg1 arg2 arg3 arg4 arg5 arg7 harg7 arg10 harg10 (.ret ⟨⟩) := by
  unfold cc0_oproj_rmsnorm_quant
  rw [dif_pos h1, dif_neg h2, dif_neg h3]
  rfl

set_option maxRecDepth 100000 in
set_option maxHeartbeats 0 in
theorem body_B (i : grid0.Coords) (arg1 : Memref sig .tc .vmem S256x2176 .fp8e4m3) (harg1 : arg1.IsWhole) (arg2 : Memref sig .tc .vmem S1x2x128 .f32) (harg2 : arg2.IsWhole) (arg3 : Memref sig .tc .vmem S2176x3584 .fp8e4m3) (harg3 : arg3.IsWhole) (arg4 : Memref sig .tc .vmem S1x3584 .f32) (harg4 : arg4.IsWhole) (arg5 : Memref sig .tc .vmem S256x3584 .bf16) (harg5 : arg5.IsWhole) (arg6 : Memref sig .tc .vmem S1x3584 .bf16) (harg6 : arg6.IsWhole) (arg7 : Memref sig .tc .vmem S256x3584 .bf16) (harg7 : arg7.IsWhole) (arg8 : Memref sig .tc .vmem S256x3584 .fp8e4m3) (harg8 : arg8.IsWhole) (arg9 : Memref sig .tc .vmem S1x2x128 .f32) (harg9 : arg9.IsWhole) (arg10 : Memref sig .tc .vmem S2x256x3584 .bf16) (harg10 : arg10.IsWhole)
    (h1 : ¬ k0_cond1 i = 1#1) (h2 : k0_cond2 i = 1#1) (h3 : ¬ k0_cond3 i = 1#1) :
    cc0_oproj_rmsnorm_quant (F := F) i arg1 harg1 arg2 harg2 arg3 harg3 arg4 harg4 arg5 harg5 arg6 harg6 arg7 harg7 arg8 harg8 arg9 harg9 arg10 harg10
      = projProg i arg1 arg2 arg3 arg4 arg5 arg7 harg7 arg10 harg10 (quantProg i arg6 arg8 harg8 arg9 arg10) := by
  unfold cc0_oproj_rmsnorm_quant
  rw [dif_neg h1, dif_pos h2, dif_neg h3]
  rfl

end Cert.KernelIdeal.Gen

end
-- ==== Proof.K.Steps.lean ====
module

public import proofs.«01_k».proof.Proof.K.Prog
public import proofs.«01_k».proof.Proof.Gen.KernelIdeal.Frame

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load from a buffer held whole goes on at the rectangle's part of what the buffer holds. -/
theorem wp_ld (c : Dev nD) {s : Shape} {e : EltTy} (m : Memref sig .tc .vmem s e) (r : Rect s) (hl) (X : s.Idx → Elt F e)
    (k : (r.shape.Idx → Elt F e) → PP F) (Q : PUnit → sProp 𝕄) :
    iprop(owns (c : Thread nD τ) m fullShare X
      ∗ (owns (c : Thread nD τ) m fullShare X -∗ wp frame (wpE (defs₀ (F := F)) Variants.none c none) Set.univ (k (View.ld X r)) Q))
    ⊢ wp frame (wpE (defs₀ (F := F)) Variants.none c none) Set.univ (.op (.load m r.toLoadRect hl) k) Q := by
  unfold owns
  iintro ⟨⟨%f, %hf, H⟩, Hk⟩
  subst hf
  iapply (wp_load_rect (defs := defs₀ (F := F)) Variants.none (c : Thread nD τ) none Set.univ (m := m) (r := r) (hl := hl) (k := k) (f := f) (q := fullShare) (S := m.view.set) (m.view.set_slice_subset r)) $$ [H]
  · iexact H
  iintro H
  iapply Hk
  iexists f
  isplitr
  · ipureintro; rfl
  iexact H

/-- A store to a buffer held whole goes on at any contents that read the stored value in the rectangle and what was there
    outside it. -/
theorem wp_st (c : Dev nD) {s : Shape} {e : EltTy} (m : Memref sig .tc .vmem s e) (r : Rect s) (w : r.shape.Idx → Elt F e) (hx hm)
    (X X' : s.Idx → Elt F e) (h1 : ∀ x, X' (r.emb x) = w x) (h2 : ∀ y, y ∉ r.set → X' y = X y)
    (k : PP F) (Q : PUnit → sProp 𝕄) :
    iprop(owns (c : Thread nD τ) m fullShare X
      ∗ (owns (c : Thread nD τ) m fullShare X' -∗ wp frame (wpE (defs₀ (F := F)) Variants.none c none) Set.univ k Q))
    ⊢ wp frame (wpE (defs₀ (F := F)) Variants.none c none) Set.univ (.op (.store m r w Finset.univ hx hm) fun _ => k) Q := by
  unfold owns
  iintro ⟨⟨%f, %hf, H⟩, Hk⟩
  iapply (wp_store_writes₀ (defs := defs₀ (F := F)) Variants.none (c : Thread nD τ) none Set.univ (m := m) (r := r) (w := w) (hx := hx) (hm := hm) (k := fun _ => k) (f := f) (S := m.view.set) (m.view.set_slice_subset r)) $$ [H]
  · iexact H
  iintro H
  iapply Hk
  iexists _
  isplitr
  swap
  · iexact H
  ipureintro
  funext y
  by_cases hy : y ∈ r.set
  · rw [← Rect.map_emb_univ] at hy
    obtain ⟨x, -, rfl⟩ := Finset.mem_map.mp hy
    rw [h1]
    exact View.read_slice_write_emb r _ w (Finset.mem_univ x)
  · rw [h2 y hy, ← hf]
    exact View.read_slice_write_of_not_mem r _ w _ (by rwa [Rect.map_emb_univ])

end Cert.KernelIdeal.Gen

end
-- ==== Proof.K.Blocks.lean ====
module

public import proofs.«01_k».proof.Proof.K.Steps
public import Idealize.ShloMosaic.Lib.Pointwise.Index
public import Idealize.ShloMosaic.Lib.Pipeline.ValueKit.Geometry
public import Idealize.ShloMosaic.Lib.Pipeline.Value

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Contents laid over contents -/

open Classical in
/-- The contents `X` with the rectangle `r` made to read `G`. -/
def over {s : Shape} {e : EltTy} (G : s.Idx → Elt F e) (r : Rect s) (X : s.Idx → Elt F e) : s.Idx → Elt F e :=
  fun y => if y ∈ r.set then G y else X y

theorem over_mem {s : Shape} {e : EltTy} (G : s.Idx → Elt F e) (r : Rect s) (X : s.Idx → Elt F e) (y : s.Idx) (h : y ∈ r.set) :
    over G r X y = G y := if_pos h

theorem over_not_mem {s : Shape} {e : EltTy} (G : s.Idx → Elt F e) (r : Rect s) (X : s.Idx → Elt F e) (y : s.Idx) (h : y ∉ r.set) :
    over G r X y = X y := if_neg h

theorem emb_mem {s : Shape} (r : Rect s) (x : r.shape.Idx) : r.emb x ∈ r.set := by
  rw [← Rect.map_emb_univ]; exact Finset.mem_map_of_mem _ (Finset.mem_univ x)

/-- A store of what `G` reads in a rectangle leaves `G` laid over what was there. -/
theorem wp_st_over (c : Dev nD) {s : Shape} {e : EltTy} (m : Memref sig .tc .vmem s e) (r : Rect s) (w : r.shape.Idx → Elt F e) (hx hm)
    (X G : s.Idx → Elt F e) (h : ∀ x, G (r.emb x) = w x) (k : PP F) (Q : PUnit → sProp 𝕄) :
    iprop(owns (c : Thread nD τ) m fullShare X
      ∗ (owns (c : Thread nD τ) m fullShare (over G r X) -∗ wp frame (wpE (defs₀ (F := F)) Variants.none c none) Set.univ k Q))
    ⊢ wp frame (wpE (defs₀ (F := F)) Variants.none c none) Set.univ (.op (.store m r w Finset.univ hx hm) fun _ => k) Q :=
  wp_st c m r w hx hm X _ (fun x => (over_mem G r X _ (emb_mem r x)).trans (h x)) (fun y hy => over_not_mem G r X y hy) k Q

/-! ## The quantising half -/

section Quant

variable (R : Vec F S256x3584 .bf16) (Gm : Vec F S1x3584 .bf16)

/-- The tile of 32 rows and 128 columns of a block of rows, as the body reads it. -/
def tileR (g : Fin 8) (t : Fin 28) : Vec F S1x32x128 .bf16 := fun x =>
  R (ix2 ⟨32 * g.val + (x 1).val, by have h : (x 1).val < 32 := (x 1).isLt; omega⟩
    ⟨128 * t.val + (x 2).val, by have h : (x 2).val < 128 := (x 2).isLt; omega⟩)

/-- The sum of squares after `n` tiles, lane by lane. -/
def sq (g : Fin 8) : ℕ → FVec F S32x128 .f32
  | 0 => vZero
  | n + 1 => if h : n < 28 then vSsq (sq g n) (tileR R g ⟨n, h⟩) else sq g n

/-- The largest magnitude after `n` tiles, lane by lane. -/
def am (g : Fin 8) : ℕ → FVec F S32x128 .f32
  | 0 => vZero
  | n + 1 => if h : n < 28 then vAmax (am g n) (tileR R g ⟨n, h⟩) (View.ld Gm (rG ⟨n, h⟩)) else am g n

theorem sq_succ (g : Fin 8) (n : ℕ) (h : n < 28) : sq R g (n + 1) = vSsq (sq R g n) (tileR R g ⟨n, h⟩) := by
  rw [sq]; exact dif_pos h

theorem am_succ (g : Fin 8) (n : ℕ) (h : n < 28) :
    am R Gm g (n + 1) = vAmax (am R Gm g n) (tileR R g ⟨n, h⟩) (View.ld Gm (rG ⟨n, h⟩)) := by
  rw [am]; exact dif_pos h

/-- The exponent of a group's scales. -/
def eOf (g : Fin 8) : IVec S32x128 32 := vE (vV (vInv (sq R g 28)) (am R Gm g 28))
/-- What a group's rows are multiplied by. -/
def mOf (g : Fin 8) : FVec F S32x128 .f32 := vMul (vInv (sq R g 28)) (eOf R Gm g)
/-- A group's scales. -/
def pOf (g : Fin 8) : FVec F S32x128 .f32 := vPow (eOf R Gm g)

/-- The quantised block. -/
def yOf : Vec F S256x3584 .fp8e4m3 := fun y =>
  have h0 : (y 0).val < 256 := (y 0).isLt
  have h1 : (y 1).val < 3584 := (y 1).isLt
  vY (mOf R Gm ⟨(y 0).val / 32, by omega⟩) (tileR R ⟨(y 0).val / 32, by omega⟩ ⟨(y 1).val / 128, by omega⟩)
    (View.ld Gm (rG ⟨(y 1).val / 128, by omega⟩)) (ix2 ⟨(y 0).val % 32, by omega⟩ ⟨(y 1).val % 128, by omega⟩)

/-- The block's scales. -/
def sOf : Vec F S1x2x128 .f32 := fun y =>
  have h1 : (y 1).val < 2 := (y 1).isLt
  vS (pOf R Gm ⟨4 * (y 1).val, by omega⟩) (pOf R Gm ⟨4 * (y 1).val + 1, by omega⟩) (pOf R Gm ⟨4 * (y 1).val + 2, by omega⟩)
    (pOf R Gm ⟨4 * (y 1).val + 3, by omega⟩) (ix3 0 0 ⟨(y 2).val, (y 2).isLt⟩)

/-- In a tile the quantised block reads what the body stores there. -/
theorem yOf_emb (g : Fin 8) (t : Fin 28) (x : (rY g t).shape.Idx) :
    yOf R Gm ((rY g t).emb x) = vY (mOf R Gm g) (tileR R g t) (View.ld Gm (rG t)) x := by
  have hx0 : (x 0).val < 32 := (x 0).isLt
  have hx1 : (x 1).val < 128 := (x 1).isLt
  have e0 : (((rY g t).emb x) 0).val = 32 * g.val + (x 0).val := ValueKit.rect_emb_unit_val _ _ _ x 0
  have e1 : (((rY g t).emb x) 1).val = 128 * t.val + (x 1).val := ValueKit.rect_emb_unit_val _ _ _ x 1
  have a0 : (⟨(((rY g t).emb x) 0).val / 32, by have := (((rY g t).emb x) 0).isLt; omega⟩ : Fin 8) = g := Fin.ext (by show _ / 32 = _; omega)
  have a1 : (⟨(((rY g t).emb x) 1).val / 128, by omega⟩ : Fin 28) = t := Fin.ext (by show _ / 128 = _; omega)
  have a2 : (ix2 ⟨(((rY g t).emb x) 0).val % 32, by omega⟩ ⟨(((rY g t).emb x) 1).val % 128, by omega⟩ : S32x128.Idx) = x := by
    funext a
    apply Fin.ext
    fin_cases a
    · show (((rY g t).emb x) 0).val % 32 = (x 0).val; omega
    · show (((rY g t).emb x) 1).val % 128 = (x 1).val; omega
  unfold yOf
  dsimp only
  rw [a0, a1]
  exact congrArg _ a2

/-- Likewise the scales. -/
theorem sOf_emb (k : Fin 2) (x : (rS k).shape.Idx) :
    sOf R Gm ((rS k).emb x) = vS (pOf R Gm ⟨4 * k.val, by omega⟩) (pOf R Gm ⟨4 * k.val + 1, by omega⟩) (pOf R Gm ⟨4 * k.val + 2, by omega⟩)
      (pOf R Gm ⟨4 * k.val + 3, by omega⟩) x := by
  have hx0 : (x 0).val < 1 := (x 0).isLt
  have hx1 : (x 1).val < 1 := (x 1).isLt
  have hx2 : (x 2).val < 128 := (x 2).isLt
  have e1 : (((rS k).emb x) 1).val = k.val + (x 1).val := ValueKit.rect_emb_unit_val _ _ _ x 1
  have e2 : (((rS k).emb x) 2).val = 0 + (x 2).val := ValueKit.rect_emb_unit_val _ _ _ x 2
  have e1' : (((rS k).emb x) 1).val = k.val := by omega
  have a2 : (ix3 0 0 ⟨(((rS k).emb x) 2).val, by omega⟩ : S1x1x128.Idx) = x := by
    funext a
    apply Fin.ext
    fin_cases a
    · show 0 = (x 0).val; omega
    · show 0 = (x 1).val; omega
    · show (((rS k).emb x) 2).val = (x 2).val; omega
  unfold sOf
  dsimp only
  simp only [e1']
  exact congrArg _ a2

variable (i : grid0.Coords)

/-- The scratch's slot read at this point holds the block `R`. -/
def Holds (X10 : Vec F S2x256x3584 .bf16) : Prop :=
  ∀ y : S2x256x3584.Idx, (y 0).val = rslot i → X10 y = R (ix2 ⟨(y 1).val, (y 1).isLt⟩ ⟨(y 2).val, (y 2).isLt⟩)

theorem ld_tileR (X10 : Vec F S2x256x3584 .bf16) (h : Holds R i X10) (g : Fin 8) (t : Fin 28) :
    View.ld X10 (rR i g t) = tileR R g t := by
  funext x
  have hx0 : (x 0).val < 1 := (x 0).isLt
  have e0 : (((rR i g t).emb x) 0).val = rslot i + (x 0).val := ValueKit.rect_emb_unit_val _ _ _ x 0
  have e1 : (((rR i g t).emb x) 1).val = 32 * g.val + (x 1).val := ValueKit.rect_emb_unit_val _ _ _ x 1
  have e2 : (((rR i g t).emb x) 2).val = 128 * t.val + (x 2).val := ValueKit.rect_emb_unit_val _ _ _ x 2
  show X10 ((rR i g t).emb x) = _
  rw [h _ (by omega)]
  unfold tileR
  congr 1
  rw [ix2_inj]
  exact ⟨Fin.ext e1, Fin.ext e2⟩

theorem wp_statLoop (c : Dev nD) (arg6 : Memref sig .tc .vmem S1x3584 .bf16) (arg10 : Memref sig .tc .vmem S2x256x3584 .bf16) (Q : PUnit → sProp 𝕄)
    (X10 : Vec F S2x256x3584 .bf16) (h : Holds R i X10) (g : Fin 8) (k : FVec F S32x128 .f32 → FVec F S32x128 .f32 → PP F) :
    ∀ n, n ≤ 28 →
    iprop(owns (c : Thread nD τ) arg10 fullShare X10 ∗ owns (c : Thread nD τ) arg6 fullShare Gm
      ∗ ((owns (c : Thread nD τ) arg10 fullShare X10 ∗ owns (c : Thread nD τ) arg6 fullShare Gm)
        -∗ wp frame (wpE (defs₀ (F := F)) Variants.none c none) Set.univ (k (sq R g 28) (am R Gm g 28)) Q))
    ⊢ wp frame (wpE (defs₀ (F := F)) Variants.none c none) Set.univ (statLoop i arg6 arg10 g n (sq R g (28 - n)) (am R Gm g (28 - n)) k) Q := by
  intro n
  induction n with
  | zero =>
    intro _
    unfold statLoop
    iintro ⟨H10, H6, Hk⟩
    iapply Hk
    isplitl [H10]
    · iexact H10
    iexact H6
  | succ n ih =>
    intro hn
    have e1 : 28 - (n + 1) = 27 - n := by omega
    have e2 : 28 - n = (27 - n) + 1 := by omega
    replace ih := ih (by omega)
    rw [e2] at ih
    rw [sq_succ R g (27 - n) (by omega), am_succ R Gm g (27 - n) (by omega)] at ih
    rw [e1]
    unfold statLoop ldR ldG
    iintro ⟨H10, H6, Hk⟩
    iapply wp_ld c arg10 _ _ X10
    isplitl [H10]
    · iexact H10
    iintro H10
    iapply wp_ld c arg6 _ _ Gm
    isplitl [H6]
    · iexact H6
    iintro H6
    rw [ld_tileR R i X10 h]
    iapply ih
    isplitl [H10]
    · iexact H10
    isplitl [H6]
    · iexact H6
    iexact Hk

/-- The tiles of the groups before `g` and the first `t` tiles of group `g` are quantised. -/
def YDone (g t : ℕ) (X8 : Vec F S256x3584 .fp8e4m3) : Prop :=
  ∀ y : S256x3584.Idx, ((y 0).val < 32 * g ∨ ((y 0).val < 32 * (g + 1) ∧ (y 1).val < 128 * t)) → X8 y = yOf R Gm y

theorem YDone_step (g : Fin 8) (t : Fin 28) (X8 : Vec F S256x3584 .fp8e4m3) (h : YDone R Gm g.val t.val X8) :
    YDone R Gm g.val (t.val + 1) (over (yOf R Gm) (rY g t) X8) := by
  intro y hy
  by_cases hm : y ∈ (rY g t).set
  · exact over_mem _ _ _ _ hm
  rw [over_not_mem _ _ _ _ hm]
  apply h
  by_contra hc
  apply hm
  rw [LoadRect.mem_set]
  push Not at hc
  have hy1 : (y 1).val < 3584 := (y 1).isLt
  intro a
  fin_cases a
  · refine ⟨(y 0).val - 32 * g.val, ?_, ?_⟩
    · show _ < 32; omega
    · show (y 0).val = 32 * g.val + 1 * ((y 0).val - 32 * g.val); omega
  · refine ⟨(y 1).val - 128 * t.val, ?_, ?_⟩
    · show _ < 128; omega
    · show (y 1).val = 128 * t.val + 1 * ((y 1).val - 128 * t.val); omega

theorem YDone_next (g : ℕ) (X8 : Vec F S256x3584 .fp8e4m3) (h : YDone R Gm g 28 X8) : YDone R Gm (g + 1) 0 X8 := by
  intro y hy
  have hy1 : (y 1).val < 3584 := (y 1).isLt
  exact h y (by omega)

theorem wp_quantLoop (c : Dev nD) (arg6 : Memref sig .tc .vmem S1x3584 .bf16) (arg8 : Memref sig .tc .vmem S256x3584 .fp8e4m3) (harg8 : arg8.IsWhole) (arg10 : Memref sig .tc .vmem S2x256x3584 .bf16) (Q : PUnit → sProp 𝕄)
    (X10 : Vec F S2x256x3584 .bf16) (h : Holds R i X10) (g : Fin 8) (k : PP F) :
    ∀ n, n ≤ 28 → ∀ X8, YDone R Gm g.val (28 - n) X8 →
    iprop(owns (c : Thread nD τ) arg10 fullShare X10 ∗ owns (c : Thread nD τ) arg6 fullShare Gm ∗ owns (c : Thread nD τ) arg8 fullShare X8
      ∗ (∀ X8', (⌜YDone R Gm g.val 28 X8'⌝ ∗ owns (c : Thread nD τ) arg10 fullShare X10 ∗ owns (c : Thread nD τ) arg6 fullShare Gm
          ∗ owns (c : Thread nD τ) arg8 fullShare X8') -∗ wp frame (wpE (defs₀ (F := F)) Variants.none c none) Set.univ k Q))
    ⊢ wp frame (wpE (defs₀ (F := F)) Variants.none c none) Set.univ (quantLoop i arg6 arg8 harg8 arg10 g (mOf R Gm g) n k) Q
  | 0, _, X8, h8 => by
    unfold quantLoop
    iintro ⟨H10, H6, H8, Hk⟩
    iapply Hk $$ %X8
    isplitr
    · ipureintro; exact h8
    isplitl [H10]
    · iexact H10
    isplitl [H6]
    · iexact H6
    iexact H8
  | n + 1, hn, X8, h8 => by
    have e1 : 28 - (n + 1) = 27 - n := by omega
    have e2 : 28 - n = (27 - n) + 1 := by omega
    have ih := wp_quantLoop c arg6 arg8 harg8 arg10 Q X10 h g k n (by omega) (over (yOf R Gm) (rY g ⟨27 - n, by omega⟩) X8)
      (by rw [e2]; exact YDone_step R Gm g ⟨27 - n, by omega⟩ X8 (by rw [e1] at h8; exact h8))
    unfold quantLoop ldR ldG stY
    iintro ⟨H10, H6, H8, Hk⟩
    iapply wp_ld c arg10 _ _ X10
    isplitl [H10]
    · iexact H10
    iintro H10
    iapply wp_ld c arg6 _ _ Gm
    isplitl [H6]
    · iexact H6
    iintro H6
    iapply wp_ld c arg8 _ _ X8
    isplitl [H8]
    · iexact H8
    iintro H8
    iapply wp_st_over c arg8 _ _ _ _ X8 (yOf R Gm) (by intro x; rw [ld_tileR R i X10 h]; exact yOf_emb R Gm g _ x)
    isplitl [H8]
    · iexact H8
    iintro H8
    iapply ih
    isplitl [H10]
    · iexact H10
    isplitl [H6]
    · iexact H6
    isplitl [H8]
    · iexact H8
    iexact Hk

theorem wp_group (c : Dev nD) (arg6 : Memref sig .tc .vmem S1x3584 .bf16) (arg8 : Memref sig .tc .vmem S256x3584 .fp8e4m3) (harg8 : arg8.IsWhole) (arg10 : Memref sig .tc .vmem S2x256x3584 .bf16) (Q : PUnit → sProp 𝕄)
    (X10 : Vec F S2x256x3584 .bf16) (h : Holds R i X10) (g : Fin 8) (k : FVec F S32x128 .f32 → PP F)
    (X8 : Vec F S256x3584 .fp8e4m3) (h8 : YDone R Gm g.val 0 X8) :
    iprop(owns (c : Thread nD τ) arg10 fullShare X10 ∗ owns (c : Thread nD τ) arg6 fullShare Gm ∗ owns (c : Thread nD τ) arg8 fullShare X8
      ∗ (∀ X8', (⌜YDone R Gm (g.val + 1) 0 X8'⌝ ∗ owns (c : Thread nD τ) arg10 fullShare X10 ∗ owns (c : Thread nD τ) arg6 fullShare Gm
          ∗ owns (c : Thread nD τ) arg8 fullShare X8') -∗ wp frame (wpE (defs₀ (F := F)) Variants.none c none) Set.univ (k (pOf R Gm g)) Q))
    ⊢ wp frame (wpE (defs₀ (F := F)) Variants.none c none) Set.univ (group i arg6 arg8 harg8 arg10 g k) Q := by
  unfold group
  iintro ⟨H10, H6, H8, Hk⟩
  iapply wp_statLoop R Gm i c arg6 arg10 Q X10 h g _ 28 le_rfl
  isplitl [H10]
  · iexact H10
  isplitl [H6]
  · iexact H6
  iintro ⟨H10, H6⟩
  iapply wp_quantLoop R Gm i c arg6 arg8 harg8 arg10 Q X10 h g _ 28 le_rfl X8 h8
  isplitl [H10]
  · iexact H10
  isplitl [H6]
  · iexact H6
  isplitl [H8]
  · iexact H8
  iintro %X8' ⟨%h8', H10, H6, H8⟩
  iapply Hk $$ %X8'
  isplitr
  · ipureintro; exact YDone_next R Gm g.val X8' h8'
  isplitl [H10]
  · iexact H10
  isplitl [H6]
  · iexact H6
  iexact H8

theorem over_sOf (X9 : Vec F S1x2x128 .f32) : over (sOf R Gm) (rS 1) (over (sOf R Gm) (rS 0) X9) = sOf R Gm := by
  funext y
  by_cases h1 : y ∈ (rS 1).set
  · exact over_mem _ _ _ _ h1
  rw [over_not_mem _ _ _ _ h1]
  by_cases h0 : y ∈ (rS 0).set
  · exact over_mem _ _ _ _ h0
  exfalso
  have b0 : (y 0).val < 1 := (y 0).isLt
  have b1 : (y 1).val < 2 := (y 1).isLt
  have b2 : (y 2).val < 128 := (y 2).isLt
  have key : ∀ k : Fin 2, (y 1).val = k.val → y ∈ (rS k).set := by
    intro k hk
    rw [LoadRect.mem_set]
    intro a
    fin_cases a
    · refine ⟨0, ?_, ?_⟩
      · show 0 < 1; omega
      · show (y 0).val = 0 + 1 * 0; omega
    · refine ⟨0, ?_, ?_⟩
      · show 0 < 1; omega
      · show (y 1).val = k.val + 1 * 0; omega
    · refine ⟨(y 2).val, ?_, ?_⟩
      · show (y 2).val < 128; omega
      · show (y 2).val = 0 + 1 * (y 2).val; omega
  rcases Nat.lt_or_ge (y 1).val 1 with hlt | hge
  · exact h0 (key 0 (by show (y 1).val = 0; omega))
  · exact h1 (key 1 (by show (y 1).val = 1; omega))

/-- The quantising half leaves the quantised block and its scales. -/
theorem wp_quantProg (c : Dev nD) (arg6 : Memref sig .tc .vmem S1x3584 .bf16) (arg8 : Memref sig .tc .vmem S256x3584 .fp8e4m3) (harg8 : arg8.IsWhole) (arg9 : Memref sig .tc .vmem S1x2x128 .f32) (arg10 : Memref sig .tc .vmem S2x256x3584 .bf16) (Q : PUnit → sProp 𝕄)
    (X10 : Vec F S2x256x3584 .bf16) (h : Holds R i X10) (X8 : Vec F S256x3584 .fp8e4m3) (X9 : Vec F S1x2x128 .f32) :
    iprop(owns (c : Thread nD τ) arg10 fullShare X10 ∗ owns (c : Thread nD τ) arg6 fullShare Gm ∗ owns (c : Thread nD τ) arg8 fullShare X8
      ∗ owns (c : Thread nD τ) arg9 fullShare X9
      ∗ ((owns (c : Thread nD τ) arg10 fullShare X10 ∗ owns (c : Thread nD τ) arg6 fullShare Gm
          ∗ owns (c : Thread nD τ) arg8 fullShare (yOf R Gm) ∗ owns (c : Thread nD τ) arg9 fullShare (sOf R Gm)) -∗ Q ⟨⟩))
    ⊢ wp frame (wpE (defs₀ (F := F)) Variants.none c none) Set.univ (quantProg i arg6 arg8 harg8 arg9 arg10) Q := by
  have hd0 : YDone R Gm (0 : Fin 8).val 0 X8 := by
    intro y hy
    have hv : (0 : Fin 8).val = 0 := rfl
    omega
  unfold quantProg stS
  iintro ⟨H10, H6, H8, H9, Hk⟩
  iapply wp_group R Gm i c arg6 arg8 harg8 arg10 Q X10 h 0 _ X8 hd0
  isplitl [H10]
  · iexact H10
  isplitl [H6]
  · iexact H6
  isplitl [H8]
  · iexact H8
  iintro %Z0 ⟨%hz0, H10, H6, H8⟩
  iapply wp_group R Gm i c arg6 arg8 harg8 arg10 Q X10 h 1 _ Z0 hz0
  isplitl [H10]
  · iexact H10
  isplitl [H6]
  · iexact H6
  isplitl [H8]
  · iexact H8
  iintro %Z1 ⟨%hz1, H10, H6, H8⟩
  iapply wp_group R Gm i c arg6 arg8 harg8 arg10 Q X10 h 2 _ Z1 hz1
  isplitl [H10]
  · iexact H10
  isplitl [H6]
  · iexact H6
  isplitl [H8]
  · iexact H8
  iintro %Z2 ⟨%hz2, H10, H6, H8⟩
  iapply wp_group R Gm i c arg6 arg8 harg8 arg10 Q X10 h 3 _ Z2 hz2
  isplitl [H10]
  · iexact H10
  isplitl [H6]
  · iexact H6
  isplitl [H8]
  · iexact H8
  iintro %Z3 ⟨%hz3, H10, H6, H8⟩
  iapply wp_group R Gm i c arg6 arg8 harg8 arg10 Q X10 h 4 _ Z3 hz3
  isplitl [H10]
  · iexact H10
  isplitl [H6]
  · iexact H6
  isplitl [H8]
  · iexact H8
  iintro %Z4 ⟨%hz4, H10, H6, H8⟩
  iapply wp_group R Gm i c arg6 arg8 harg8 arg10 Q X10 h 5 _ Z4 hz4
  isplitl [H10]
  · iexact H10
  isplitl [H6]
  · iexact H6
  isplitl [H8]
  · iexact H8
  iintro %Z5 ⟨%hz5, H10, H6, H8⟩
  iapply wp_group R Gm i c arg6 arg8 harg8 arg10 Q X10 h 6 _ Z5 hz5
  isplitl [H10]
  · iexact H10
  isplitl [H6]
  · iexact H6
  isplitl [H8]
  · iexact H8
  iintro %Z6 ⟨%hz6, H10, H6, H8⟩
  iapply wp_group R Gm i c arg6 arg8 harg8 arg10 Q X10 h 7 _ Z6 hz6
  isplitl [H10]
  · iexact H10
  isplitl [H6]
  · iexact H6
  isplitl [H8]
  · iexact H8
  iintro %Z7 ⟨%hz7, H10, H6, H8⟩
  iapply wp_ld c arg9 _ _ X9
  isplitl [H9]
  · iexact H9
  iintro H9
  iapply wp_st_over c arg9 _ _ _ _ X9 (sOf R Gm) (fun x => sOf_emb R Gm 0 x)
  isplitl [H9]
  · iexact H9
  iintro H9
  iapply wp_ld c arg9 _ _ (over (sOf R Gm) (rS 0) X9)
  isplitl [H9]
  · iexact H9
  iintro H9
  iapply wp_st_over c arg9 _ _ _ _ (over (sOf R Gm) (rS 0) X9) (sOf R Gm) (fun x => sOf_emb R Gm 1 x)
  isplitl [H9]
  · iexact H9
  iintro H9
  rw [over_sOf]
  have e8 : Z7 = yOf R Gm := by
    funext y
    exact hz7 y (.inl (by have := (y 0).isLt; exact this))
  rw [e8]
  rw [wp_ret]
  imodintro
  iapply Hk
  isplitl [H10]
  · iexact H10
  isplitl [H6]
  · iexact H6
  isplitl [H8]
  · iexact H8
  iexact H9

end Quant

/-! ## The projecting half -/

section Project

variable (x : Vec F S256x2176 .fp8e4m3) (xs : Vec F S1x2x128 .f32) (w : Vec F S2176x3584 .fp8e4m3) (ws : Vec F S1x3584 .f32)
  (res : Vec F S256x3584 .bf16)

/-- One tile of the projected block. -/
def oT (j : Fin 7) (q : Fin 4) : FVec F S256x128 .bf16 :=
  vOut (vSl q (vAcc (View.ld x rX) (View.ld w (rW j)))) (vXs (View.ld xs rXS)) (View.ld ws (rG (tileOf j q))) (View.ld res (rC (tileOf j q)))

/-- The projected block: the product with the scales and the residual. -/
def oOf : Vec F S256x3584 .bf16 := fun y =>
  have h1 : (y 1).val < 3584 := (y 1).isLt
  oT x xs w ws res ⟨(y 1).val / 512, by omega⟩ ⟨(y 1).val / 128 % 4, by omega⟩ (ix2 ⟨(y 0).val, (y 0).isLt⟩ ⟨(y 1).val % 128, by omega⟩)

/-- The projected block in both slots of the scratch. -/
def oOf2 : Vec F S2x256x3584 .bf16 := fun y => oOf x xs w ws res (ix2 ⟨(y 1).val, (y 1).isLt⟩ ⟨(y 2).val, (y 2).isLt⟩)

theorem oOf_at (j : Fin 7) (q : Fin 4) (y : S256x3584.Idx) (z : S256x128.Idx) (h0 : (y 0).val = (z 0).val)
    (h1 : (y 1).val = 128 * (tileOf j q).val + (z 1).val) : oOf x xs w ws res y = oT x xs w ws res j q z := by
  have hz1 : (z 1).val < 128 := (z 1).isLt
  have ht : (tileOf j q).val = 4 * j.val + q.val := rfl
  have b1 : (y 1).val < 3584 := (y 1).isLt
  have a0 : (⟨(y 1).val / 512, by omega⟩ : Fin 7) = j := Fin.ext (by show _ / 512 = _; omega)
  have a1 : (⟨(y 1).val / 128 % 4, by omega⟩ : Fin 4) = q := Fin.ext (by show _ / 128 % 4 = _; omega)
  have a2 : (ix2 ⟨(y 0).val, (y 0).isLt⟩ ⟨(y 1).val % 128, by omega⟩ : S256x128.Idx) = z := by
    funext a
    apply Fin.ext
    fin_cases a
    · exact h0
    · show (y 1).val % 128 = (z 1).val; omega
  unfold oOf
  dsimp only
  rw [a0, a1]
  exact congrArg _ a2

theorem oOf_emb (j : Fin 7) (q : Fin 4) (z : (rC (tileOf j q)).shape.Idx) :
    oOf x xs w ws res ((rC (tileOf j q)).emb z) = oT x xs w ws res j q z :=
  oOf_at x xs w ws res j q _ z ((ValueKit.rect_emb_unit_val _ _ _ z 0).trans (Nat.zero_add _)) (ValueKit.rect_emb_unit_val _ _ _ z 1)

variable (i : grid0.Coords)

theorem cast_emb (t : Fin 28) (v : FVec F S256x128 .bf16) (z : (rP i t).shape.Idx) :
    (shapeCast S1x256x128 v shapeCasts_S256x128_S1x256x128 : FVec F S1x256x128 .bf16) z
      = v (ix2 ⟨(z 1).val, (z 1).isLt⟩ ⟨(z 2).val, (z 2).isLt⟩) := by
  refine (shapeCast_addUnit_apply ![256, 128] v shapeCasts_S256x128_S1x256x128 z).trans (congrArg v ?_)
  funext a
  fin_cases a <;> rfl

theorem oOf2_emb (j : Fin 7) (q : Fin 4) (z : (rP i (tileOf j q)).shape.Idx) :
    oOf2 x xs w ws res ((rP i (tileOf j q)).emb z)
      = (shapeCast S1x256x128 (oT x xs w ws res j q) shapeCasts_S256x128_S1x256x128 : FVec F S1x256x128 .bf16) z := by
  rw [cast_emb]
  exact oOf_at x xs w ws res j q _ _ ((ValueKit.rect_emb_unit_val _ _ _ z 1).trans (Nat.zero_add _)) (ValueKit.rect_emb_unit_val _ _ _ z 2)

/-- The first `t` tiles of the block are projected. -/
def ODone (t : ℕ) (X7 : Vec F S256x3584 .bf16) : Prop := ∀ y : S256x3584.Idx, (y 1).val < 128 * t → X7 y = oOf x xs w ws res y

/-- The first `t` tiles of the block are in the scratch's slot written at this point, and the other slot is as it was. -/
def PDone (t : ℕ) (X X10 : Vec F S2x256x3584 .bf16) : Prop :=
  ∀ y : S2x256x3584.Idx, ((y 0).val = wslot i → (y 2).val < 128 * t → X10 y = oOf2 x xs w ws res y) ∧ ((y 0).val ≠ wslot i → X10 y = X y)

theorem ODone_step (t : Fin 28) (X7 : Vec F S256x3584 .bf16) (h : ODone x xs w ws res t.val X7) :
    ODone x xs w ws res (t.val + 1) (over (oOf x xs w ws res) (rC t) X7) := by
  intro y hy
  by_cases hm : y ∈ (rC t).set
  · exact over_mem _ _ _ _ hm
  rw [over_not_mem _ _ _ _ hm]
  apply h
  by_contra hc
  apply hm
  rw [LoadRect.mem_set]
  have hy0 : (y 0).val < 256 := (y 0).isLt
  intro a
  fin_cases a
  · refine ⟨(y 0).val, hy0, ?_⟩
    show (y 0).val = 0 + 1 * (y 0).val; omega
  · refine ⟨(y 1).val - 128 * t.val, ?_, ?_⟩
    · show _ < 128; omega
    · show (y 1).val = 128 * t.val + 1 * ((y 1).val - 128 * t.val); omega

theorem PDone_step (t : Fin 28) (X X10 : Vec F S2x256x3584 .bf16) (h : PDone x xs w ws res i t.val X X10) :
    PDone x xs w ws res i (t.val + 1) X (over (oOf2 x xs w ws res) (rP i t) X10) := by
  intro y
  by_cases hm : y ∈ (rP i t).set
  · refine ⟨fun _ _ => over_mem _ _ _ _ hm, fun hn => absurd ?_ hn⟩
    obtain ⟨j, hj, e⟩ := (LoadRect.mem_set _).mp hm 0
    have hj' : j < 1 := hj
    have e' : (y 0).val = wslot i + 1 * j := e
    omega
  · rw [over_not_mem _ _ _ _ hm]
    refine ⟨fun h0 hy => (h y).1 h0 ?_, (h y).2⟩
    by_contra hc
    apply hm
    rw [LoadRect.mem_set]
    have hy1 : (y 1).val < 256 := (y 1).isLt
    intro a
    fin_cases a
    · refine ⟨0, ?_, ?_⟩
      · show 0 < 1; omega
      · show (y 0).val = wslot i + 1 * 0; omega
    · refine ⟨(y 1).val, hy1, ?_⟩
      show (y 1).val = 0 + 1 * (y 1).val; omega
    · refine ⟨(y 2).val - 128 * t.val, ?_, ?_⟩
      · show _ < 128; omega
      · show (y 2).val = 128 * t.val + 1 * ((y 2).val - 128 * t.val); omega

theorem wp_tileLoop (c : Dev nD) (arg4 : Memref sig .tc .vmem S1x3584 .f32) (arg5 : Memref sig .tc .vmem S256x3584 .bf16) (arg7 : Memref sig .tc .vmem S256x3584 .bf16) (harg7 : arg7.IsWhole) (arg10 : Memref sig .tc .vmem S2x256x3584 .bf16) (harg10 : arg10.IsWhole) (Q : PUnit → sProp 𝕄)
    (X : Vec F S2x256x3584 .bf16) (j : Fin 7) (k : PP F) :
    ∀ n, n ≤ 4 → ∀ X7 X10, ODone x xs w ws res (4 * j.val + (4 - n)) X7 → PDone x xs w ws res i (4 * j.val + (4 - n)) X X10 →
    iprop(owns (c : Thread nD τ) arg4 fullShare ws ∗ owns (c : Thread nD τ) arg5 fullShare res ∗ owns (c : Thread nD τ) arg7 fullShare X7
      ∗ owns (c : Thread nD τ) arg10 fullShare X10
      ∗ (∀ X7' X10', (⌜ODone x xs w ws res (4 * j.val + 4) X7' ∧ PDone x xs w ws res i (4 * j.val + 4) X X10'⌝
          ∗ owns (c : Thread nD τ) arg4 fullShare ws ∗ owns (c : Thread nD τ) arg5 fullShare res ∗ owns (c : Thread nD τ) arg7 fullShare X7'
          ∗ owns (c : Thread nD τ) arg10 fullShare X10') -∗ wp frame (wpE (defs₀ (F := F)) Variants.none c none) Set.univ k Q))
    ⊢ wp frame (wpE (defs₀ (F := F)) Variants.none c none) Set.univ (tileLoop i arg4 arg5 arg7 harg7 arg10 harg10 j (vXs (View.ld xs rXS)) (vAcc (View.ld x rX) (View.ld w (rW j))) n k) Q
  | 0, _, X7, X10, h7, h10 => by
    unfold tileLoop
    iintro ⟨H4, H5, H7, H10, Hk⟩
    iapply Hk $$ %X7 %X10
    isplitr
    · ipureintro; exact ⟨h7, h10⟩
    isplitl [H4]
    · iexact H4
    isplitl [H5]
    · iexact H5
    isplitl [H7]
    · iexact H7
    iexact H10
  | n + 1, hn, X7, X10, h7, h10 => by
    have e1 : 4 * j.val + (4 - (n + 1)) = (tileOf j ⟨3 - n, by omega⟩).val := by show _ = 4 * j.val + (3 - n); omega
    have e2 : 4 * j.val + (4 - n) = (tileOf j ⟨3 - n, by omega⟩).val + 1 := by show _ = 4 * j.val + (3 - n) + 1; omega
    rw [e1] at h7 h10
    have ih := wp_tileLoop c arg4 arg5 arg7 harg7 arg10 harg10 Q X j k n (by omega) (over (oOf x xs w ws res) (rC (tileOf j ⟨3 - n, by omega⟩)) X7)
      (over (oOf2 x xs w ws res) (rP i (tileOf j ⟨3 - n, by omega⟩)) X10) (by rw [e2]; exact ODone_step x xs w ws res _ X7 h7)
      (by rw [e2]; exact PDone_step x xs w ws res i _ X X10 h10)
    unfold tileLoop stP
    iintro ⟨H4, H5, H7, H10, Hk⟩
    iapply wp_ld c arg4 _ _ ws
    isplitl [H4]
    · iexact H4
    iintro H4
    iapply wp_ld c arg5 _ _ res
    isplitl [H5]
    · iexact H5
    iintro H5
    iapply wp_ld c arg7 _ _ X7
    isplitl [H7]
    · iexact H7
    iintro H7
    iapply wp_st_over c arg7 _ _ _ _ X7 (oOf x xs w ws res) (fun z => oOf_emb x xs w ws res j _ z)
    isplitl [H7]
    · iexact H7
    iintro H7
    iapply wp_ld c arg10 _ _ X10
    isplitl [H10]
    · iexact H10
    iintro H10
    iapply wp_st_over c arg10 _ _ _ _ X10 (oOf2 x xs w ws res) (fun z => oOf2_emb x xs w ws res i j _ z)
    isplitl [H10]
    · iexact H10
    iintro H10
    iapply ih
    isplitl [H4]
    · iexact H4
    isplitl [H5]
    · iexact H5
    isplitl [H7]
    · iexact H7
    isplitl [H10]
    · iexact H10
    iexact Hk

theorem wp_chunkLoop (c : Dev nD) (arg1 : Memref sig .tc .vmem S256x2176 .fp8e4m3) (arg3 : Memref sig .tc .vmem S2176x3584 .fp8e4m3) (arg4 : Memref sig .tc .vmem S1x3584 .f32) (arg5 : Memref sig .tc .vmem S256x3584 .bf16) (arg7 : Memref sig .tc .vmem S256x3584 .bf16) (harg7 : arg7.IsWhole) (arg10 : Memref sig .tc .vmem S2x256x3584 .bf16) (harg10 : arg10.IsWhole) (Q : PUnit → sProp 𝕄)
    (X : Vec F S2x256x3584 .bf16) (k : PP F) :
    ∀ n, n ≤ 7 → ∀ X7 X10, ODone x xs w ws res (4 * (7 - n)) X7 → PDone x xs w ws res i (4 * (7 - n)) X X10 →
    iprop(owns (c : Thread nD τ) arg1 fullShare x ∗ owns (c : Thread nD τ) arg3 fullShare w
      ∗ owns (c : Thread nD τ) arg4 fullShare ws ∗ owns (c : Thread nD τ) arg5 fullShare res ∗ owns (c : Thread nD τ) arg7 fullShare X7
      ∗ owns (c : Thread nD τ) arg10 fullShare X10
      ∗ (∀ X7' X10', (⌜ODone x xs w ws res 28 X7' ∧ PDone x xs w ws res i 28 X X10'⌝
          ∗ owns (c : Thread nD τ) arg1 fullShare x ∗ owns (c : Thread nD τ) arg3 fullShare w
          ∗ owns (c : Thread nD τ) arg4 fullShare ws ∗ owns (c : Thread nD τ) arg5 fullShare res ∗ owns (c : Thread nD τ) arg7 fullShare X7'
          ∗ owns (c : Thread nD τ) arg10 fullShare X10') -∗ wp frame (wpE (defs₀ (F := F)) Variants.none c none) Set.univ k Q))
    ⊢ wp frame (wpE (defs₀ (F := F)) Variants.none c none) Set.univ (chunkLoop i arg1 arg3 arg4 arg5 arg7 harg7 arg10 harg10 (vXs (View.ld xs rXS)) n k) Q
  | 0, _, X7, X10, h7, h10 => by
    unfold chunkLoop
    iintro ⟨H1, H3, H4, H5, H7, H10, Hk⟩
    iapply Hk $$ %X7 %X10
    isplitr
    · ipureintro; exact ⟨h7, h10⟩
    isplitl [H1]
    · iexact H1
    isplitl [H3]
    · iexact H3
    isplitl [H4]
    · iexact H4
    isplitl [H5]
    · iexact H5
    isplitl [H7]
    · iexact H7
    iexact H10
  | n + 1, hn, X7, X10, h7, h10 => by
    have e1 : 4 * (7 - (n + 1)) = 4 * (⟨6 - n, by omega⟩ : Fin 7).val + (4 - 4) := by show _ = 4 * (6 - n) + (4 - 4); omega
    have e2 : 4 * (7 - n) = 4 * (⟨6 - n, by omega⟩ : Fin 7).val + 4 := by show _ = 4 * (6 - n) + 4; omega
    rw [e1] at h7 h10
    have ih := wp_chunkLoop c arg1 arg3 arg4 arg5 arg7 harg7 arg10 harg10 Q X k n (by omega)
    rw [e2] at ih
    unfold chunkLoop
    iintro ⟨H1, H3, H4, H5, H7, H10, Hk⟩
    iapply wp_ld c arg1 _ _ x
    isplitl [H1]
    · iexact H1
    iintro H1
    iapply wp_ld c arg3 _ _ w
    isplitl [H3]
    · iexact H3
    iintro H3
    iapply wp_tileLoop x xs w ws res i c arg4 arg5 arg7 harg7 arg10 harg10 Q X ⟨6 - n, _⟩ _ 4 le_rfl X7 X10 h7 h10
    isplitl [H4]
    · iexact H4
    isplitl [H5]
    · iexact H5
    isplitl [H7]
    · iexact H7
    isplitl [H10]
    · iexact H10
    iintro %X7' %X10' ⟨%hd, H4, H5, H7, H10⟩
    iapply ih X7' X10' hd.1 hd.2
    isplitl [H1]
    · iexact H1
    isplitl [H3]
    · iexact H3
    isplitl [H4]
    · iexact H4
    isplitl [H5]
    · iexact H5
    isplitl [H7]
    · iexact H7
    isplitl [H10]
    · iexact H10
    iexact Hk

/-- The projecting half leaves the projected block in the result and in the scratch's slot written at this point. -/
theorem wp_projProg (c : Dev nD) (arg1 : Memref sig .tc .vmem S256x2176 .fp8e4m3) (arg2 : Memref sig .tc .vmem S1x2x128 .f32) (arg3 : Memref sig .tc .vmem S2176x3584 .fp8e4m3) (arg4 : Memref sig .tc .vmem S1x3584 .f32) (arg5 : Memref sig .tc .vmem S256x3584 .bf16) (arg7 : Memref sig .tc .vmem S256x3584 .bf16) (harg7 : arg7.IsWhole) (arg10 : Memref sig .tc .vmem S2x256x3584 .bf16) (harg10 : arg10.IsWhole) (Q : PUnit → sProp 𝕄)
    (X : Vec F S2x256x3584 .bf16) (X7 : Vec F S256x3584 .bf16) (k : PP F) :
    iprop(owns (c : Thread nD τ) arg1 fullShare x ∗ owns (c : Thread nD τ) arg2 fullShare xs ∗ owns (c : Thread nD τ) arg3 fullShare w
      ∗ owns (c : Thread nD τ) arg4 fullShare ws ∗ owns (c : Thread nD τ) arg5 fullShare res ∗ owns (c : Thread nD τ) arg7 fullShare X7
      ∗ owns (c : Thread nD τ) arg10 fullShare X
      ∗ (∀ X10', (⌜PDone x xs w ws res i 28 X X10'⌝
          ∗ owns (c : Thread nD τ) arg1 fullShare x ∗ owns (c : Thread nD τ) arg2 fullShare xs ∗ owns (c : Thread nD τ) arg3 fullShare w
          ∗ owns (c : Thread nD τ) arg4 fullShare ws ∗ owns (c : Thread nD τ) arg5 fullShare res
          ∗ owns (c : Thread nD τ) arg7 fullShare (oOf x xs w ws res)
          ∗ owns (c : Thread nD τ) arg10 fullShare X10') -∗ wp frame (wpE (defs₀ (F := F)) Variants.none c none) Set.univ k Q))
    ⊢ wp frame (wpE (defs₀ (F := F)) Variants.none c none) Set.univ (projProg i arg1 arg2 arg3 arg4 arg5 arg7 harg7 arg10 harg10 k) Q := by
  unfold projProg
  iintro ⟨H1, H2, H3, H4, H5, H7, H10, Hk⟩
  iapply wp_ld c arg2 _ _ xs
  isplitl [H2]
  · iexact H2
  iintro H2
  iapply wp_chunkLoop x xs w ws res i c arg1 arg3 arg4 arg5 arg7 harg7 arg10 harg10 Q X k 7 le_rfl X7 X
    (by intro y hy; omega) (by intro y; exact ⟨fun _ hy => by omega, fun _ => rfl⟩)
  isplitl [H1]
  · iexact H1
  isplitl [H3]
  · iexact H3
  isplitl [H4]
  · iexact H4
  isplitl [H5]
  · iexact H5
  isplitl [H7]
  · iexact H7
  isplitl [H10]
  · iexact H10
  iintro %X7' %X10' ⟨%hd, H1, H3, H4, H5, H7, H10⟩
  have e7 : X7' = oOf x xs w ws res := by
    funext y
    exact hd.1 y (by have h : (y 1).val < 3584 := (y 1).isLt; omega)
  rw [e7]
  iapply Hk $$ %X10'
  isplitr
  · ipureintro; exact hd.2
  isplitl [H1]
  · iexact H1
  isplitl [H2]
  · iexact H2
  isplitl [H3]
  · iexact H3
  isplitl [H4]
  · iexact H4
  isplitl [H5]
  · iexact H5
  isplitl [H7]
  · iexact H7
  iexact H10

end Project

end Cert.KernelIdeal.Gen

end
-- ==== Proof.K.Run.lean ====
module

public import proofs.«01_k».proof.Proof.K.EqC
public import proofs.«01_k».proof.Proof.K.Blocks
public import proofs.«01_k».proof.Proof.Gen.KernelIdeal.Frame
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points: which half runs, and on which slot of the scratch -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 13 = 0 :=
  (fun t => by
    have ht : t.val < 13 := Nat.lt_of_lt_of_eq t.isLt N_0
    have e0 : (grid0.coords t 0).val = t.val / 1 % 13 := Pipeline.Grid.coords_val t 0 (by decide) rfl
    simp only [cond0_0, k0_cond1, e0]
    word_cmp
   : ∀ t : Fin grid0.N, cond0_0 (grid0.coords t) ↔ t.val % 13 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i0 and i0 ≤ 11 — decided over the grid. -/
theorem hcond0_1 : ∀ t : Fin cfg0.N, cond0_1 (grid0.coords t) ↔ (1 ≤ t.val % 13 ∧ t.val % 13 ≤ 11) :=
  (by decide +kernel : ∀ t : Fin grid0.N, cond0_1 (grid0.coords t) ↔ (1 ≤ t.val % 13 ∧ t.val % 13 ≤ 11))

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 13 = 12 :=
  (fun t => by
    have ht : t.val < 13 := Nat.lt_of_lt_of_eq t.isLt N_0
    have e0 : (grid0.coords t 0).val = t.val / 1 % 13 := Pipeline.Grid.coords_val t 0 (by decide) rfl
    simp only [cond0_2, k0_cond3, e0]
    word_cmp
   : ∀ t : Fin grid0.N, cond0_2 (grid0.coords t) ↔ t.val % 13 = 12)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x2176 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2176x3584 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3584 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3584 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3584 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x3584 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x3584 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2x256x3584 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The slot a quantising point reads is the one the point before wrote. -/
theorem rslot_coords : ∀ t : Fin grid0.N, 1 ≤ t.val → rslot (grid0.coords t) = (t.val - 1) % 2 := by decide +kernel
/-- The slot a projecting point writes. -/
theorem wslot_coords : ∀ t : Fin grid0.N, wslot (grid0.coords t) = t.val % 2 := by decide +kernel

theorem idle6_false : ∀ t : Fin grid0.N, t.val ≤ 11 → cfg0.idle 6 (grid0.coords t) = false := by decide +kernel
theorem idle6_last : ∀ t : Fin grid0.N, t.val = 12 → cfg0.idle 6 (grid0.coords t) = true ∧ (cfg0.win 6).flush t = true := by decide +kernel
theorem idle7_false : ∀ t : Fin grid0.N, 1 ≤ t.val → cfg0.idle 7 (grid0.coords t) = false := by decide +kernel
theorem idle8_false : ∀ t : Fin grid0.N, 1 ≤ t.val → cfg0.idle 8 (grid0.coords t) = false := by decide +kernel
theorem idle7_first : ∀ t : Fin grid0.N, t.val = 0 → cfg0.idle 7 (grid0.coords t) = true ∧ (cfg0.win 7).flush t = false := by decide +kernel
theorem idle8_first : ∀ t : Fin grid0.N, t.val = 0 → cfg0.idle 8 (grid0.coords t) = true ∧ (cfg0.win 8).flush t = false := by decide +kernel
theorem flush6_11 : ∀ t : Fin grid0.N, t.val = 11 → (cfg0.win 6).flush t = false := by decide +kernel

/-! ## The pipeline's proof data -/

/-- The point before. -/
def pt (t : Fin cfg0.N) : Fin cfg0.N := ⟨t.val - 1, Nat.lt_of_le_of_lt (Nat.sub_le _ _) t.isLt⟩
/-- The last projecting point up to `t`. -/
def cl (t : Fin cfg0.N) : Fin cfg0.N := ⟨min t.val 11, Nat.lt_of_le_of_lt (Nat.min_le_left _ _) t.isLt⟩

/-- The block projected at point `t`. -/
def blkR (c : Dev nD) (t : Fin cfg0.N) : Vec F S256x3584 .bf16 :=
  oOf (iblk m c 0 t) (iblk m c 1 t) (iblk m c 2 t) (iblk m c 3 t) (iblk m c 4 t)

/-- Before point `n` the scratch's slot written at the point before holds the block projected there. -/
def Carries (c : Dev nD) (n : ℕ) (X : Vec F S2x256x3584 .bf16) : Prop :=
  ∀ s : Fin cfg0.N, s.val + 1 = n → s.val ≤ 11 → ∀ y : S2x256x3584.Idx, (y 0).val = s.val % 2 →
    X y = blkR m c s (ix2 ⟨(y 1).val, (y 1).isLt⟩ ⟨(y 2).val, (y 2).isLt⟩)

/-- What is held between points: the scratch, at contents that carry the block last projected, and the generator register. -/
def Φk (c : Dev nD) (t : Fin (cfg0.N + 1)) : sProp 𝕄 :=
  iprop((∃ X, ⌜Carries m c t.val X⌝ ∗ owns (c : Thread nD τ) scM0_0 fullShare X) ∗ (∃ r, prngReg c r))

/-- The proof data: each input's buffer at its block; the result at the block projected last; the quantised block and its scales
    of the block projected at the point before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blkR m c (cl t)
    | ⟨7, _⟩ => yOf (blkR m c (pt t)) (iblk m c 5 t)
    | ⟨8, _⟩ => sOf (blkR m c (pt t)) (iblk m c 5 t)
  Φ t := Φk m c t
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = blkR m c (cl t) := by dsimp only [dats]
theorem after0_7 (c : Dev nD) (t : Fin cfg0.N) : (dats m 0 c).after 7 t = yOf (blkR m c (pt t)) (iblk m c 5 t) := by dsimp only [dats]
theorem after0_8 (c : Dev nD) (t : Fin cfg0.N) : (dats m 0 c).after 8 t = sOf (blkR m c (pt t)) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At the last point, which projects nothing, the result's buffer still holds the block projected before it. -/
theorem before0_6_last (c : Dev nD) (t : Fin cfg0.N) (ht : t.val = 12) (d) : (dats m 0 c).before 6 t d = blkR m c (cl t) := by
  rw [(dats m 0 c).before_of_pos 6 t (by omega) (Pipeline.Window.fetch_out _ rfl t) d,
    flush6_11 ⟨t.val - 1, _⟩ (by show t.val - 1 = 11; omega), if_neg Bool.false_ne_true]
  unfold Dat.left
  rw [idle6_false ⟨t.val - 1, _⟩ (by show t.val - 1 ≤ 11; omega)]
  show (dats m 0 c).after 6 ⟨t.val - 1, _⟩ = _
  rw [after0_6]
  congr 1
  apply Fin.ext
  show min (t.val - 1) 11 = min t.val 11
  omega

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_live (c : Dev nD) (t : Fin cfg0.N) (w : Fin 9) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The scratch carries the block a quantising point reads. -/
theorem holds_of_carries (c : Dev nD) (t : Fin cfg0.N) (h1 : 1 ≤ t.val) (X : Vec F S2x256x3584 .bf16) (h : Carries m c t.val X) :
    Holds (blkR m c (pt t)) (grid0.coords t) X := by
  have ht : t.val < 13 := Nat.lt_of_lt_of_eq t.isLt N_0
  intro y hy
  rw [rslot_coords t h1] at hy
  exact h (pt t) (by show t.val - 1 + 1 = t.val; omega) (by show t.val - 1 ≤ 11; omega) y hy

/-- Projecting leaves the other slot as it was. -/
theorem holds_of_done (c : Dev nD) (t : Fin cfg0.N) (h1 : 1 ≤ t.val) (X X' : Vec F S2x256x3584 .bf16)
    (h : Holds (blkR m c (pt t)) (grid0.coords t) X)
    (hd : PDone (iblk m c 0 t) (iblk m c 1 t) (iblk m c 2 t) (iblk m c 3 t) (iblk m c 4 t) (grid0.coords t) 28 X X') :
    Holds (blkR m c (pt t)) (grid0.coords t) X' := by
  intro y hy
  rw [(hd y).2 ?_]
  · exact h y hy
  · rw [hy, rslot_coords t h1, wslot_coords t]; omega

/-- Projecting leaves the scratch carrying the block. -/
theorem carries_of_done (c : Dev nD) (t : Fin cfg0.N) (X X' : Vec F S2x256x3584 .bf16)
    (hd : PDone (iblk m c 0 t) (iblk m c 1 t) (iblk m c 2 t) (iblk m c 3 t) (iblk m c 4 t) (grid0.coords t) 28 X X') :
    Carries m c (t.val + 1) X' := by
  intro s hs _ y hy
  have e : s = t := Fin.ext (by omega)
  subst e
  exact (hd y).1 (by rw [wslot_coords s]; exact hy) (by have h : (y 2).val < 3584 := (y 2).isLt; omega)

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 13 := lt_of_lt_of_eq t.isLt (show cfg0.N = 13 from N_0)
  unfold bodyPre bodyPost bodyAt0
  simp only [before0_0, before0_1, before0_2, before0_3, before0_4, before0_5]
  rw [show (dats m 0 c).owesAt () t.succ = (dats m 0 c).owesAt () t.castSucc from rfl,
    show (dats m 0 c).Φ t.castSucc = Φk m c t.castSucc from rfl, show (dats m 0 c).Φ t.succ = Φk m c t.succ from rfl]
  unfold Φk
  rw [show (t.castSucc : Fin (cfg0.N + 1)).val = t.val from rfl, show (t.succ : Fin (cfg0.N + 1)).val = t.val + 1 from rfl]
  rw [leaves_live m c t 0 rfl, leaves_live m c t 1 rfl, leaves_live m c t 2 rfl, leaves_live m c t 3 rfl, leaves_live m c t 4 rfl,
    leaves_live m c t 5 rfl, after0_0, after0_1, after0_2, after0_3, after0_4, after0_5]
  by_cases h0 : t.val = 0
  · rw [body_A _ _ _ _ _ _ _ _ _ _ _ _ _ _ _ _ _ _ _ _ _ ((hcond0_0 t).mpr (by omega)) (fun h => by have := (hcond0_1 t).mp h; omega)
      (fun h => by have := (hcond0_2 t).mp h; omega)]
    rw [leaves_live m c t 6 (idle6_false t (by omega)), after0_6, show cl t = t from Fin.ext (by show min t.val 11 = t.val; omega),
      (dats m 0 c).leavesExact_idle 7 t (idle7_first t h0).1 (idle7_first t h0).2, (dats m 0 c).leavesExact_idle 8 t (idle8_first t h0).1 (idle8_first t h0).2]
    iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, H7, H8⟩
    iapply wp_projProg (iblk m c 0 t) (iblk m c 1 t) (iblk m c 2 t) (iblk m c 3 t) (iblk m c 4 t) (grid0.coords t) c
    isplitl [H0]
    · iexact H0
    isplitl [H1]
    · iexact H1
    isplitl [H2]
    · iexact H2
    isplitl [H3]
    · iexact H3
    isplitl [H4]
    · iexact H4
    isplitl [H6]
    · iexact H6
    isplitl [HS]
    · iexact HS
    iintro %X' ⟨%hd, H0, H1, H2, H3, H4, H6, HS⟩
    rw [wp_ret]
    imodintro
    isplitl [HS Hg]
    · isplitl [HS]
      · iexists X'
        isplitr
        · ipureintro; exact carries_of_done m c t X X' hd
        iexact HS
      iexact Hg
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    iexact H8
  by_cases h2 : t.val = 12
  · rw [body_C _ _ _ _ _ _ _ _ _ _ _ _ _ _ _ _ _ _ _ _ _ (fun h => by have := (hcond0_0 t).mp h; omega)
      (fun h => by have := (hcond0_1 t).mp h; omega) ((hcond0_2 t).mpr (by omega))]
    have e6 : (dats m 0 c).leavesExact 6 t = owns (c : Thread nD τ) (ms0_6 t) fullShare (blkR m c (cl t)) := by
      unfold Dat.leavesExact; rw [(idle6_last t h2).1, (idle6_last t h2).2, after0_6]
    rw [e6, leaves_live m c t 7 (idle7_false t (by omega)), leaves_live m c t 8 (idle8_false t (by omega)), after0_7, after0_8]
    simp only [before0_6_last m c t h2]
    iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply wp_quantProg (blkR m c (pt t)) (iblk m c 5 t) (grid0.coords t) c _ _ _ _ _ _ X (holds_of_carries m c t (by omega) X hX)
    isplitl [HS]
    · iexact HS
    isplitl [H5]
    · iexact H5
    isplitl [H7]
    · iexact H7
    isplitl [H8]
    · iexact H8
    iintro ⟨HS, H5, H7, H8⟩
    have hX' : Carries m c (t.val + 1) X := by
      intro s hs hs'
      omega
    isplitl [HS Hg]
    · isplitl [HS]
      · iexists X
        isplitr
        · ipureintro; exact hX'
        iexact HS
      iexact Hg
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    iexact H8
  · rw [body_B _ _ _ _ _ _ _ _ _ _ _ _ _ _ _ _ _ _ _ _ _ (fun h => by have := (hcond0_0 t).mp h; omega)
      ((hcond0_1 t).mpr (by omega)) (fun h => by have := (hcond0_2 t).mp h; omega)]
    rw [leaves_live m c t 6 (idle6_false t (by omega)), after0_6, show cl t = t from Fin.ext (by show min t.val 11 = t.val; omega),
      leaves_live m c t 7 (idle7_false t (by omega)), leaves_live m c t 8 (idle8_false t (by omega)), after0_7, after0_8]
    iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply wp_projProg (iblk m c 0 t) (iblk m c 1 t) (iblk m c 2 t) (iblk m c 3 t) (iblk m c 4 t) (grid0.coords t) c
    isplitl [H0]
    · iexact H0
    isplitl [H1]
    · iexact H1
    isplitl [H2]
    · iexact H2
    isplitl [H3]
    · iexact H3
    isplitl [H4]
    · iexact H4
    isplitl [H6]
    · iexact H6
    isplitl [HS]
    · iexact HS
    iintro %X' ⟨%hd, H0, H1, H2, H3, H4, H6, HS⟩
    iapply wp_quantProg (blkR m c (pt t)) (iblk m c 5 t) (grid0.coords t) c _ _ _ _ _ _ X' (holds_of_done m c t (by omega) X X' (holds_of_carries m c t (by omega) X hX) hd)
    isplitl [HS]
    · iexact HS
    isplitl [H5]
    · iexact H5
    isplitl [H7]
    · iexact H7
    isplitl [H8]
    · iexact H8
    iintro ⟨HS, H5, H7, H8⟩
    isplitl [HS Hg]
    · isplitl [HS]
      · iexists X'
        isplitr
        · ipureintro; exact carries_of_done m c t X X' hd
        iexact HS
      iexact Hg
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The scratch at any contents is enough to start: nothing is carried yet. -/
theorem phi_in (c : Dev nD) : (Pipeline.ΦA spec0 c : sProp 𝕄) ⊢ (dats (F := F) m 0 c).Φ 0 := by
  rw [PhiA0_eq, show (dats m 0 c).Φ 0 = Φk m c 0 from rfl]
  unfold Φk
  iintro ⟨⟨%X, HS⟩, Hg⟩
  isplitl [HS]
  · iexists X
    isplitr
    · ipureintro
      intro s hs
      exact absurd hs (Nat.succ_ne_zero _)
    iexact HS
  iexact Hg

theorem phi_out (c : Dev nD) : (dats (F := F) m 0 c).Φ (Fin.last cfg0.N) ⊢ (Pipeline.ΦA spec0 c : sProp 𝕄) := by
  rw [PhiA0_eq, show (dats m 0 c).Φ (Fin.last cfg0.N) = Φk m c (Fin.last cfg0.N) from rfl]
  unfold Φk
  iintro ⟨⟨%X, %hX, HS⟩, Hg⟩
  isplitl [HS]
  · iexists X
    iexact HS
  iexact Hg

set_option backward.isDefEq.respectTransparency.types false in
set_option maxHeartbeats 800000 in
/-- The launch: every array of the pipeline ends at what the proof data say, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.K.Same.lean ====
module

public import proofs.«01_k».proof.Proof.Gen.Kernel
public import proofs.«01_k».proof.Proof.K.Run

@[expose] public section

noncomputable section

/- The printed kernel and its ideal twin are one program text: nothing was rewritten. So a run of the one, at any reading of the
   floats, is a run of the other. -/
namespace Cert.Same

open Idealize.ShloMosaic Idealize.SL.Sem

variable {F : FTy → Type} [FloatOps F]

/-- The two body tables are equal. -/
theorem defs₀_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => with_unfolding_all rfl
  | ⟨_ + 1, h⟩, _ => exact absurd h (Nat.not_lt.2 (Nat.le_add_left _ _))

/-- So are the tables with the pipeline's own rows. -/
theorem defs_eq : Cert.Kernel.defs (F := F) = Cert.KernelIdeal.defs (F := F) := by
  unfold Cert.Kernel.defs Cert.KernelIdeal.defs
  exact congrArg (Pipeline.defs Cert.KernelIdeal.pcfgs) defs₀_eq

/-- So are the main functions. -/
theorem main_eq : Cert.Kernel.main (F := F) = Cert.KernelIdeal.main (F := F) := by with_unfolding_all rfl

/-- **The frame of the printed kernel**: it terminates, leaves its arguments as they were and every semaphore counter at zero. -/
theorem frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩
      (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4)
        ∧ r.2.mem ((c.tc : Thread Cert.Kernel.nD Cert.Kernel.τ).loc Cert.Kernel.main_arg5) = m ((c.tc : Thread Cert.Kernel.nD Cert.Kernel.τ).loc Cert.Kernel.main_arg5))
        ∧ r.2.sem = fun _ => 0) := by
  rw [defs_eq, main_eq]
  exact Cert.KernelIdeal.Gen.frame (F := F) m g

end Cert.Same

end
-- ==== Proof.K.OutVal.lean ====
module

public import proofs.«01_k».proof.Proof.K.Blocks
public import Idealize.ShloMosaic.Lib.Pointwise

@[expose] public section

set_option maxRecDepth 16384

noncomputable section

namespace Cert.KernelIdeal.Gen

open Idealize.ShloMosaic Idealize.ShloMosaic.TcCoe

variable (x : Vec Ideal S256x2176 .fp8e4m3) (xs : Vec Ideal S1x2x128 .f32) (w : Vec Ideal S2176x3584 .fp8e4m3) (ws : Vec Ideal S1x3584 .f32)
  (res : Vec Ideal S256x3584 .bf16)

/-- The column of the rows' scales, at a row: the scale of the row, stored in two rows of 128. -/
theorem vXs_apply (r : Fin 256) (l : Fin 128) :
    vXs xs (ix2 r l) = xs (ix3 0 ⟨r.val / 128, by omega⟩ ⟨r.val % 128, by omega⟩) := by
  pointwise [vXs]
  split
  · rename_i h
    congr 1
    exact congrArg₂ (ix3 0) (Fin.ext (by simp; omega)) (Fin.ext (by simp; omega))
  · rename_i h
    congr 1
    exact congrArg₂ (ix3 0) (Fin.ext (by simp; omega)) (Fin.ext (by simp; omega))

/-- A block of the projection, at an element: the row's product with the column, times the two scales, plus the residual. -/
theorem oOf_apply (r : Fin 256) (n : Fin 3584) :
    oOf x xs w ws res (ix2 r n)
      = (∑ k : Fin 2176, (x (ix2 r k) : EReal) * w (ix2 k n)) * xs (ix3 0 ⟨r.val / 128, by omega⟩ ⟨r.val % 128, by omega⟩) * ws (ix2 0 n)
        + res (ix2 r n) := by
  unfold oOf oT
  pointwise [vOut, vSl, vAcc, vXs_apply]
  have h1 : (⟨512 * (n.val / 512) + (128 * (n.val / 128 % 4) + n.val % 128), by omega⟩ : Fin 3584) = n := Fin.ext (by simp; omega)
  have h2 : (⟨128 * (tileOf ⟨n.val / 512, by omega⟩ ⟨n.val / 128 % 4, by omega⟩).val + n.val % 128, by simp [tileOf]; omega⟩ : Fin 3584) = n :=
    Fin.ext (by simp [tileOf]; omega)
  simp only [h1, h2]

end Cert.KernelIdeal.Gen

end
-- ==== Proof.K.Spec.lean ====
module

public import Idealize.ShloMosaic.Lib.Pointwise

@[expose] public section

noncomputable section

namespace Cert.Spec

open Idealize.ShloMosaic

/-- The projection, of the argument arrays, on the real numbers with the two infinities: in row `j 0` of the 3 · 1024 rows and
    column `j 1`, the row of codes times the column of the weights, times the scale of the row, times the scale of the column,
    plus the residual. -/
def outG (a0 : (⟨3, ![3, 1024, 2176]⟩ : Shape).Idx → EReal) (a1 : (⟨3, ![3, 1024, 1]⟩ : Shape).Idx → EReal)
    (a2 : (⟨2, ![2176, 3584]⟩ : Shape).Idx → EReal) (a3 : (⟨1, ![3584]⟩ : Shape).Idx → EReal)
    (a4 : (⟨3, ![3, 1024, 3584]⟩ : Shape).Idx → EReal) (j : (⟨2, ![3072, 3584]⟩ : Shape).Idx) : EReal :=
  have h : (j 0).val < 3072 := (j 0).isLt
  (∑ k : Fin 2176, a0 (ix3 ⟨(j 0).val / 1024, by omega⟩ ⟨(j 0).val % 1024, by omega⟩ k) * a2 (ix2 k ⟨(j 1).val, (j 1).isLt⟩))
    * a1 (ix3 ⟨(j 0).val / 1024, by omega⟩ ⟨(j 0).val % 1024, by omega⟩ 0) * a3 (ix1 ⟨(j 1).val, (j 1).isLt⟩)
  + a4 (ix3 ⟨(j 0).val / 1024, by omega⟩ ⟨(j 0).val % 1024, by omega⟩ ⟨(j 1).val, (j 1).isLt⟩)

/-- The codes as rows, at an element. -/
theorem cast_x {φ : FTy} (x : FVec Ideal ⟨3, ![3, 1024, 2176]⟩ φ) (h) (r : Fin 3072) (k : Fin 2176) :
    shapeCast ⟨2, ![3072, 2176]⟩ x h (ix2 r k) = x (ix3 ⟨r.val / 1024, by omega⟩ ⟨r.val % 1024, by omega⟩ k) := by
  pointwise

/-- The residual as rows, at an element. -/
theorem cast_r {φ : FTy} (x : FVec Ideal ⟨3, ![3, 1024, 3584]⟩ φ) (h) (r : Fin 3072) (k : Fin 3584) :
    shapeCast ⟨2, ![3072, 3584]⟩ x h (ix2 r k) = x (ix3 ⟨r.val / 1024, by omega⟩ ⟨r.val % 1024, by omega⟩ k) := by
  pointwise

/-- The rows' scales as a column, at an element. -/
theorem cast_s {φ : FTy} (x : FVec Ideal ⟨3, ![3, 1024, 1]⟩ φ) (h) (r : Fin 3072) :
    shapeCast ⟨2, ![3072, 1]⟩ x h (ix2 r 0) = x (ix3 ⟨r.val / 1024, by omega⟩ ⟨r.val % 1024, by omega⟩ 0) := by
  pointwise

/-- The rows' scales in blocks of two rows of 128, at an element. -/
theorem cast_b {φ : FTy} (x : FVec Ideal ⟨3, ![3, 1024, 1]⟩ φ) (h) (a : Fin 12) (b : Fin 2) (l : Fin 128) :
    shapeCast ⟨3, ![12, 2, 128]⟩ x h (ix3 a b l)
      = x (ix3 ⟨(a.val * 256 + b.val * 128 + l.val) / 1024, by omega⟩ ⟨(a.val * 256 + b.val * 128 + l.val) % 1024, by omega⟩ 0) := by
  pointwise
  exact congrArg x ((ix3_inj _ _ _ _ _ _).mpr ⟨Fin.ext (by simp; omega), Fin.ext (by simp; omega), rfl⟩)

/-- The columns' scales as a row, at an element. -/
theorem cast_w {φ : FTy} (x : FVec Ideal ⟨1, ![3584]⟩ φ) (h) (n : Fin 3584) :
    shapeCast ⟨2, ![1, 3584]⟩ x h (ix2 0 n) = x (ix1 n) := by
  pointwise

end Cert.Spec

end
-- ==== Proof.K.OutArr.lean ====
module

public import proofs.«01_k».proof.Proof.K.OutVal
public import proofs.«01_k».proof.Proof.K.Run
public import proofs.«01_k».proof.Proof.K.Spec
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window)
open Cert.Spec (cast_x cast_r cast_s cast_b cast_w)

variable (m : (ℓ : Loc nD τ sig) → Buf (Elt Ideal) ℓ)

/-- The codes, as the launch finds them. -/
def A0 (c : Dev nD) : FVec Ideal S3x1024x2176 .fp8e4m3 := m ((c : Thread nD τ).loc main_arg0)
/-- The rows' scales, as the launch finds them. -/
def A1 (c : Dev nD) : FVec Ideal S3x1024x1 .f32 := m ((c : Thread nD τ).loc main_arg1)
/-- The weights, as the launch finds them. -/
def A2 (c : Dev nD) : FVec Ideal S2176x3584 .fp8e4m3 := m ((c : Thread nD τ).loc main_arg2)
/-- The columns' scales, as the launch finds them. -/
def A3 (c : Dev nD) : FVec Ideal S3584 .f32 := m ((c : Thread nD τ).loc main_arg3)
/-- The residual, as the launch finds them. -/
def A4 (c : Dev nD) : FVec Ideal S3x1024x3584 .bf16 := m ((c : Thread nD τ).loc main_arg4)

/-- The projection, of this memory's argument arrays. -/
def outM (c : Dev nD) : S3072x3584.Idx → EReal := Cert.Spec.outG (A0 m c) (A1 m c) (A2 m c) (A3 m c) (A4 m c)

theorem ind0 : ∀ t : Fin cfg0.N, win0_0.index t = ![min t.val 11, 0] := (by decide +kernel : ∀ t : Fin grid0.N, _)
theorem ind1 : ∀ t : Fin cfg0.N, win0_1.index t = ![min t.val 11, 0, 0] := (by decide +kernel : ∀ t : Fin grid0.N, _)
theorem ind2 : ∀ t : Fin cfg0.N, win0_2.index t = ![0, 0] := (by decide +kernel : ∀ t : Fin grid0.N, _)
theorem ind3 : ∀ t : Fin cfg0.N, win0_3.index t = ![0, 0] := (by decide +kernel : ∀ t : Fin grid0.N, _)
theorem ind4 : ∀ t : Fin cfg0.N, win0_4.index t = ![min t.val 11, 0] := (by decide +kernel : ∀ t : Fin grid0.N, _)
theorem ind6 : ∀ t : Fin cfg0.N, win0_6.index t = ![min t.val 11, 0] := (by decide +kernel : ∀ t : Fin grid0.N, _)

/-- The weights where the region is entered. -/
theorem ent2 (c : Dev nD) : (V m c main_arg2 : S2176x3584.Idx → EReal) = A2 m c := V_main_arg2 m c

/-- Argument 0 where the region is entered. -/
theorem ent0 (c : Dev nD) : (V m c main_v0 : S3072x2176.Idx → EReal) = shapeCast S3072x2176 (A0 m c) shapeCasts_S3x1024x2176_S3072x2176 := by
  entry_read
  rfl

/-- Input window 0's block, at an element. -/
theorem blk0 (c : Dev nD) (t : Fin cfg0.N) (r : Fin 256) (k : Fin 2176) (h : min t.val 11 * 256 + r.val < 3072) : (iblk m c 0 (cl t) (ix2 r k) : EReal)
    = A0 m c (ix3 ⟨(min t.val 11 * 256 + r.val) / 1024, by omega⟩ ⟨(min t.val 11 * 256 + r.val) % 1024, by omega⟩ k) := by
  have hN : t.val < 13 := t.isLt
  have hc : (cl t).val = min t.val 11 := rfl
  have e : (win0_0.blk (cl t)).view.emb (ix2 r k) = (ix2 ⟨min t.val 11 * 256 + r.val, h⟩ k) := by blk_ext [hc, ind0]
  show (V m c main_v0 : S3072x2176.Idx → EReal) ((win0_0.blk (cl t)).view.emb (ix2 r k)) = _
  rw [ent0, e]
  exact cast_x _ _ _ _

/-- Argument 1 where the region is entered. -/
theorem ent1 (c : Dev nD) : (V m c main_v1 : S12x2x128.Idx → EReal) = shapeCast S12x2x128 (A1 m c) shapeCasts_S3x1024x1_S12x2x128 := by
  entry_read
  rfl

/-- Input window 1's block, at an element. -/
theorem blk1 (c : Dev nD) (t : Fin cfg0.N) (r : Fin 256)  (h : min t.val 11 * 256 + r.val < 3072) : (iblk m c 1 (cl t) (ix3 0 ⟨r.val / 128, by omega⟩ ⟨r.val % 128, by omega⟩) : EReal)
    = A1 m c (ix3 ⟨(min t.val 11 * 256 + r.val) / 1024, by omega⟩ ⟨(min t.val 11 * 256 + r.val) % 1024, by omega⟩ 0) := by
  have hN : t.val < 13 := t.isLt
  have hc : (cl t).val = min t.val 11 := rfl
  have e : (win0_1.blk (cl t)).view.emb (ix3 0 ⟨r.val / 128, by omega⟩ ⟨r.val % 128, by omega⟩) = (ix3 ⟨min t.val 11, by omega⟩ ⟨r.val / 128, by omega⟩ ⟨r.val % 128, by omega⟩) := by blk_ext [hc, ind1]
  show (V m c main_v1 : S12x2x128.Idx → EReal) ((win0_1.blk (cl t)).view.emb (ix3 0 ⟨r.val / 128, by omega⟩ ⟨r.val % 128, by omega⟩)) = _
  rw [ent1, e]
  exact (cast_b _ _ _ _ _).trans (congrArg _ ((ix3_inj _ _ _ _ _ _).mpr ⟨Fin.ext (by dsimp only; omega), Fin.ext (by dsimp only; omega), rfl⟩))

/-- Input window 2's block, at an element. -/
theorem blk2 (c : Dev nD) (t : Fin cfg0.N) (r : Fin 256) (k : Fin 2176) (n : Fin 3584) (h : min t.val 11 * 256 + r.val < 3072) : (iblk m c 2 (cl t) (ix2 k n) : EReal)
    = A2 m c (ix2 k n) := by
  have hN : t.val < 13 := t.isLt
  have hc : (cl t).val = min t.val 11 := rfl
  have e : (win0_2.blk (cl t)).view.emb (ix2 k n) = (ix2 k n) := by blk_ext [hc, ind2]
  show (V m c main_arg2 : S2176x3584.Idx → EReal) ((win0_2.blk (cl t)).view.emb (ix2 k n)) = _
  rw [ent2, e]

/-- Argument 3 where the region is entered. -/
theorem ent3 (c : Dev nD) : (V m c main_v2 : S1x3584.Idx → EReal) = shapeCast S1x3584 (A3 m c) shapeCasts_S3584_S1x3584 := by
  entry_read
  rfl

/-- Input window 3's block, at an element. -/
theorem blk3 (c : Dev nD) (t : Fin cfg0.N) (r : Fin 256) (n : Fin 3584) (h : min t.val 11 * 256 + r.val < 3072) : (iblk m c 3 (cl t) (ix2 0 n) : EReal)
    = A3 m c (ix1 n) := by
  have hN : t.val < 13 := t.isLt
  have hc : (cl t).val = min t.val 11 := rfl
  have e : (win0_3.blk (cl t)).view.emb (ix2 0 n) = (ix2 0 n) := by blk_ext [hc, ind3]
  show (V m c main_v2 : S1x3584.Idx → EReal) ((win0_3.blk (cl t)).view.emb (ix2 0 n)) = _
  rw [ent3, e]
  exact cast_w _ _ _

/-- Argument 4 where the region is entered. -/
theorem ent4 (c : Dev nD) : (V m c main_v3 : S3072x3584.Idx → EReal) = shapeCast S3072x3584 (A4 m c) shapeCasts_S3x1024x3584_S3072x3584 := by
  entry_read
  rfl

/-- Input window 4's block, at an element. -/
theorem blk4 (c : Dev nD) (t : Fin cfg0.N) (r : Fin 256) (n : Fin 3584) (h : min t.val 11 * 256 + r.val < 3072) : (iblk m c 4 (cl t) (ix2 r n) : EReal)
    = A4 m c (ix3 ⟨(min t.val 11 * 256 + r.val) / 1024, by omega⟩ ⟨(min t.val 11 * 256 + r.val) % 1024, by omega⟩ n) := by
  have hN : t.val < 13 := t.isLt
  have hc : (cl t).val = min t.val 11 := rfl
  have e : (win0_4.blk (cl t)).view.emb (ix2 r n) = (ix2 ⟨min t.val 11 * 256 + r.val, h⟩ n) := by blk_ext [hc, ind4]
  show (V m c main_v3 : S3072x3584.Idx → EReal) ((win0_4.blk (cl t)).view.emb (ix2 r n)) = _
  rw [ent4, e]
  exact cast_r _ _ _ _

/-- After the run the first result's array holds the projection of all the rows. -/
theorem final6 (c : Dev nD) : (dats m 0 c).arrAt 6 cfg0.N = outM m c := by
  refine (dats m 0 c).arrAt_eq_of_covers 6 _ (by decide +kernel) fun t hf y => ?_
  blk_simp
  rw [after0_6]
  obtain ⟨r, n, rfl⟩ : ∃ (r : Fin 256) (n : Fin 3584), y = ix2 r n := ⟨y 0, y 1, eq_ix2 y⟩
  unfold blkR
  rw [oOf_apply]
  unfold outM Cert.Spec.outG
  have hN : t.val < 13 := t.isLt
  have hc : (cl t).val = min t.val 11 := rfl
  have e0 : ((win0_6.blk t).view.emb (ix2 r n) 0 : ℕ) = min t.val 11 * 256 + r.val := by blk_simp [ind6]; try rfl
  have e1 : ((win0_6.blk t).view.emb (ix2 r n) 1 : ℕ) = n.val := by blk_simp [ind6]; try rfl
  simp only [e0, e1]
  have h : min t.val 11 * 256 + r.val < 3072 := by omega
  reads_congr
  exacts [blk0 m c t r _ h, blk2 m c t r _ _ h, blk1 m c t r h, blk3 m c t r _ h, blk4 m c t r _ h]

/-- The first result, after the reshapes that follow the call. -/
theorem tail6 (c : Dev nD) : Pipeline.afterTail₀ cfgs (dats m) 0 (V0 m) [hostOps1] c main_v6
    = shapeCast S3x1024x3584 ((dats m 0 c).arrAt 6 cfg0.N) shapeCasts_S3072x3584_S3x1024x3584 := by
  unfold Pipeline.afterTail₀
  simp only [hostOps1, List.flatten_cons, List.flatten_nil, List.append_nil]
  after_results
  have h := Pipeline.withArrays_arr (cfgs 0).spec (by decide : Function.Injective (Pipeline.arrRef spec0)) c (V0 m c) (fun w => (dats m 0 c).arrAt w (cfgs 0).N) 6
  exact congrArg (fun x : S3072x3584.Idx → Ideal .bf16 => shapeCast S3x1024x3584 x shapeCasts_S3072x3584_S3x1024x3584) h

end Cert.KernelIdeal.Gen

end
-- ==== Proof.K.Num.lean ====
module

public import Idealize.ShloMosaic.Lib.Pointwise
public import Idealize.ShloMosaic.Lib.IdealHost

@[expose] public section

noncomputable section

namespace Cert.Num

open Idealize.ShloMosaic

/-- The float whose exponent field is `n` and whose other bits are 0. -/
def pw (n : ℕ) : EReal := Ideal.ofBits .f32 (BitVec.ofNat 32 (n * 8388608))

/-- The sign, exponent and significand fields of the word whose exponent field is `n`. -/
theorem fields : ∀ n : Fin 256, (BitVec.ofNat 32 (n.val * 8388608)).extractLsb' 31 1 = 0#1
    ∧ ((BitVec.ofNat 32 (n.val * 8388608)).extractLsb' 23 8).toNat = n.val
    ∧ ((BitVec.ofNat 32 (n.val * 8388608)).extractLsb' 0 23).toNat = 0 := by
  decide +kernel

/-- From 1 to 254 it is 2 to the `n` minus 127. -/
theorem pw_eq (n : ℕ) (h1 : 1 ≤ n) (h2 : n ≤ 254) : pw n = (((2 : ℝ) ^ ((n : ℤ) - 127) : ℝ) : EReal) := by
  obtain ⟨e1, e2, e3⟩ := fields ⟨n, by omega⟩
  simp only at e1 e2 e3
  unfold pw Ideal.ofBits Ideal.ieee
  simp only [e2, e3, Nat.reduceAdd, e1]
  rw [if_neg (by omega), if_neg (by omega)]
  congr 1
  have h0 : (0#1 == 1#1) = false := by decide
  simp only [h0]
  have : ((n : ℤ) - (2 ^ (8 - 1) - 1) - (23 : ℕ)) = ((n : ℤ) - 127) - 23 := by norm_num
  rw [this, zpow_sub₀ (by norm_num) ((n : ℤ) - 127) 23]
  generalize (2 : ℝ) ^ ((n : ℤ) - 127) = x
  norm_num
  ring

/-- At 0 it is 0. -/
theorem pw_zero : pw 0 = 0 := by
  simp [pw, Ideal.ofBits, Ideal.ieee]

/-- At 255 it is the infinity. -/
theorem pw_top : pw 255 = ⊤ := by
  simp [pw, Ideal.ofBits, Ideal.ieee]

/-- Shifting each word below 256 into the exponent field. -/
theorem shl_all : ∀ n : Fin 256, IntOp.shli .vector (BitVec.ofNat 32 n.val) 23#32 = BitVec.ofNat 32 (n.val * 8388608) := by
  decide +kernel

/-- Shifting a small word into the exponent field. -/
theorem shl_eq (b : BitVec 32) (n : ℕ) (h : b.toNat = n) (hn : n < 256) :
    IntOp.shli .vector b 23#32 = BitVec.ofNat 32 (n * 8388608) := by
  have hb : b = BitVec.ofNat 32 n := by rw [← h, BitVec.ofNat_toNat]; simp
  rw [hb]
  exact shl_all ⟨n, hn⟩

/-- One step of the search, on one element. -/
def bit (v : EReal) (b : BitVec 32) (step : BitVec 32) : BitVec 32 :=
  if Ideal.cmp .olt v (Ideal.ofBits .f32 (IntOp.shli .vector (b + step) 23#32)) = 1#1 then b else b + step

/-- What the search keeps: the power at the word is at most `v`, the power `w` further on is above it. -/
def Inv (v : EReal) (w : ℕ) (b : BitVec 32) : Prop :=
  b.toNat + w ≤ 256 ∧ pw b.toNat ≤ v ∧ (b.toNat + w = 256 ∨ v < pw (b.toNat + w))

/-- A step of the search halves the distance. -/
theorem bit_inv (v : EReal) (w : ℕ) (b step : BitVec 32) (hs : step.toNat = w) (hw : 0 < w) (h : Inv v (2 * w) b) :
    Inv v w (bit v b step) := by
  obtain ⟨h1, h2, h3⟩ := h
  have hadd : (b + step).toNat = b.toNat + w := by rw [BitVec.toNat_add, hs]; omega
  have hsh := shl_eq (b + step) (b.toNat + w) hadd (by omega)
  unfold bit
  rw [hsh]
  have hc : Ideal.cmp .olt v (Ideal.ofBits .f32 (BitVec.ofNat 32 ((b.toNat + w) * 8388608))) = BitVec.ofBool (decide (v < pw (b.toNat + w))) := rfl
  rw [hc]
  by_cases hv : v < pw (b.toNat + w)
  · simp only [hv, decide_true]
    rw [if_pos (by decide)]
    exact ⟨by omega, h2, .inr hv⟩
  · simp only [hv, decide_false]
    rw [if_neg (by decide)]
    refine ⟨by omega, by rw [hadd]; exact not_lt.mp hv, ?_⟩
    rw [hadd]
    rcases h3 with h3 | h3
    · left; omega
    · right; rw [show b.toNat + w + w = b.toNat + 2 * w by omega]; exact h3

/-- The search. -/
def bits (v : EReal) : BitVec 32 :=
  bit v (bit v (bit v (bit v (bit v (bit v (bit v (bit v 0#32 128#32) 64#32) 32#32) 16#32) 8#32) 4#32) 2#32) 1#32

/-- After all the steps the distance is 1. -/
theorem bits_inv (v : EReal) (hv : 0 ≤ v) : Inv v 1 (bits v) := by
  have h0 : Inv v (2 * 128) 0#32 := ⟨by decide, by show pw 0 ≤ v; rw [pw_zero]; exact hv, .inl (by decide)⟩
  have h1 := bit_inv v 128 _ 128#32 rfl (by omega) h0
  have h2 := bit_inv v 64 _ 64#32 rfl (by omega) h1
  have h3 := bit_inv v 32 _ 32#32 rfl (by omega) h2
  have h4 := bit_inv v 16 _ 16#32 rfl (by omega) h3
  have h5 := bit_inv v 8 _ 8#32 rfl (by omega) h4
  have h6 := bit_inv v 4 _ 4#32 rfl (by omega) h5
  have h7 := bit_inv v 2 _ 2#32 rfl (by omega) h6
  exact bit_inv v 1 _ 1#32 rfl (by omega) h7

/-- A larger exponent field is a larger float. -/
theorem pw_le {a b : ℕ} (h1 : 1 ≤ a) (hab : a ≤ b) (h2 : b ≤ 254) : pw a ≤ pw b := by
  rw [pw_eq a h1 (by omega), pw_eq b (by omega) h2, EReal.coe_le_coe_iff]
  exact zpow_le_zpow_right₀ (by norm_num) (by omega)

/-- Below 2 to the 126 the search ends at most at 252, with the power there at most `v` and the next one above it. -/
theorem bits_spec (v : EReal) (hv : 0 ≤ v) (hb : v < pw 253) :
    (bits v).toNat ≤ 252 ∧ pw (bits v).toNat ≤ v ∧ v < pw ((bits v).toNat + 1) := by
  obtain ⟨h1, h2, h3⟩ := bits_inv v hv
  have hle : (bits v).toNat ≤ 252 := by
    by_contra hc
    have hlt := lt_of_le_of_lt h2 hb
    rcases Nat.lt_or_ge (bits v).toNat 255 with h | h
    · exact absurd (pw_le (by omega) (by omega) (by omega) : pw 253 ≤ pw (bits v).toNat) (not_le.mpr hlt)
    · have : (bits v).toNat = 255 := by omega
      rw [this, pw_top] at hlt
      exact not_top_lt hlt
  exact ⟨hle, h2, h3.resolve_left (by omega)⟩

/-- The reference's powers of two. -/
def pr (i : Fin 254) : EReal := Ideal.exp2 ((((BitVec.ofNat 32 i.val - 126#32).toInt : ℝ) : EReal))

/-- The reference's exponents, from -126 on. -/
theorem sub_all : ∀ i : Fin 254, (BitVec.ofNat 32 i.val - 126#32).toInt = (i.val : ℤ) - 126 := by
  decide +kernel

/-- The reference's powers are floats with only an exponent field. -/
theorem pr_eq (i : Fin 254) : pr i = pw (i.val + 1) := by
  have e : (BitVec.ofNat 32 i.val - 126#32).toInt = (i.val : ℤ) - 126 := by
    exact sub_all i
  unfold pr
  rw [e, Ideal.exp2_coe, pw_eq _ (by omega) (by omega)]
  congr 1
  show (2 : ℝ) ^ (((i.val : ℤ) - 126 : ℤ) : ℝ) = _
  rw [Real.rpow_intCast]
  congr 1
  push_cast; ring

/-- The least power of two above `v`, as the reference finds it. -/
theorem min_pr (v : EReal) (n : ℕ) (hn : n ≤ 252) (h2 : pw n ≤ v) (h3 : v < pw (n + 1)) :
    Finset.univ.fold min (⊤ : EReal) (fun i : Fin 254 => if v < pr i then pr i else ⊤) = pw (n + 1) := by
  apply le_antisymm
  · rw [Finset.fold_min_le]
    refine .inr ⟨⟨n, by omega⟩, Finset.mem_univ _, ?_⟩
    rw [pr_eq]; simp only; rw [if_pos h3]
  · rw [Finset.le_fold_min]
    refine ⟨le_top, fun i _ => ?_⟩
    by_cases hi : v < pr i
    · rw [if_pos hi, pr_eq]
      rw [pr_eq] at hi
      by_cases hin : n ≤ i.val
      · exact pw_le (by omega) (by omega) (by omega)
      · exact absurd (lt_of_le_of_lt h2 hi) (not_lt.mpr (pw_le (by omega) (by omega) (by omega)))
    · rw [if_neg hi]; exact le_top

end Cert.Num

end
-- ==== Proof.K.Row.lean ====
module

public import proofs.«01_k».proof.Proof.K.Num

@[expose] public section

noncomputable section

namespace Cert.Num

open Idealize.ShloMosaic

/-- The magnitude. -/
def mag (x : EReal) : EReal := max x (-x)

/-- A magnitude is at least 0. -/
theorem mag_nonneg (x : EReal) : 0 ≤ mag x := by
  unfold mag
  rcases le_total 0 x with h | h
  · exact le_max_of_le_left h
  · exact le_max_of_le_right (by rw [EReal.le_neg]; simpa using h)

/-- A factor that is at least 0 comes out of a magnitude. -/
theorem mag_mul (x i : EReal) (hi : 0 ≤ i) : mag (x * i) = mag x * i := by
  have hm : Monotone (fun y : EReal => y * i) := fun a b h => mul_le_mul_of_nonneg_right h hi
  unfold mag
  rw [← EReal.neg_mul]
  exact (hm.map_max (a := x) (b := -x)).symm

/-- `M` is the largest of the values of `f`. -/
def IsMax {n : ℕ} (M : EReal) (f : Fin n → EReal) : Prop := (∀ k, f k ≤ M) ∧ ∃ k, f k = M

/-- There is one largest value. -/
theorem IsMax.unique {n : ℕ} {M M' : EReal} {f : Fin n → EReal} (h : IsMax M f) (h' : IsMax M' f) : M = M' := by
  obtain ⟨h1, k, rfl⟩ := h
  obtain ⟨h2, k', rfl⟩ := h'
  exact le_antisymm (h2 k) (h1 k')

/-- A fold of maxima from the least value is the largest value. -/
theorem isMax_fold (f : Fin 3584 → EReal) : IsMax (Finset.univ.fold max ⊥ f) f := by
  refine ⟨fun k => (Finset.le_fold_max _).mpr (.inr ⟨k, Finset.mem_univ _, le_rfl⟩), ?_⟩
  rcases (Finset.le_fold_max (s := Finset.univ) (f := f) (b := ⊥) (Finset.univ.fold max ⊥ f)).mp le_rfl with h | ⟨k, _, h⟩
  · exact ⟨0, le_antisymm ((Finset.le_fold_max _).mpr (.inr ⟨0, Finset.mem_univ _, le_rfl⟩)) (by rw [le_bot_iff.mp h]; exact bot_le)⟩
  · exact ⟨k, le_antisymm ((Finset.le_fold_max _).mpr (.inr ⟨k, Finset.mem_univ _, le_rfl⟩)) h⟩

/-- The number of columns, as the programs write it. -/
theorem c3584 : Ideal.ofBits .f32 0x45600000#32 = ((3584 : ℝ) : EReal) := by
  simp [Ideal.ofBits, Ideal.ieee, -EReal.coe_mul]; norm_num

/-- The constant added to the mean of the squares. -/
def epsR : ℝ := 8796093 * (2 : ℝ) ^ (-43 : ℤ)
/-- The constant added to the mean, as the programs write it. -/
theorem ceps : Ideal.ofBits .f32 0x358637BD#32 = ((epsR : ℝ) : EReal) := by
  simp [Ideal.ofBits, Ideal.ieee, -EReal.coe_mul, epsR]
/-- It is above 0. -/
theorem epsR_pos : 0 < epsR := by unfold epsR; positivity

/-- The constant the largest magnitude is multiplied by. -/
def cR : ℝ := 9586981 * (2 : ℝ) ^ (-32 : ℤ)
/-- The constant near 1 over 448, as the programs write it. -/
theorem cc : Ideal.ofBits .f32 0x3B124925#32 = ((cR : ℝ) : EReal) := by
  simp [Ideal.ofBits, Ideal.ieee, -EReal.coe_mul, cR]
/-- It is above 0. -/
theorem cR_pos : 0 < cR := by unfold cR; positivity

/-- The largest bfloat16. -/
def maxR : ℝ := 16711680 * (2 : ℝ) ^ (104 : ℤ)
/-- The largest bfloat16, as the comparison writes it. -/
theorem cmax : Ideal.ofBits .f32 0x7F7F0000#32 = ((maxR : ℝ) : EReal) := by
  simp [Ideal.ofBits, Ideal.ieee, -EReal.coe_mul, maxR]

/-- The reciprocal root of the mean of the squares of a row plus the constant. -/
def inv (R : Fin 3584 → EReal) : EReal :=
  Ideal.rsqrt (Ideal.div (∑ n, R n * R n) (Ideal.ofBits .f32 0x45600000#32) + Ideal.ofBits .f32 0x358637BD#32)

/-- A square is at least 0, the infinities included. -/
theorem sq_nonneg (x : EReal) : 0 ≤ x * x := by
  induction x with
  | bot => simp
  | top => simp
  | coe x => exact_mod_cast mul_self_nonneg x

/-- A row with an infinite sum of squares has reciprocal root 0. -/
theorem inv_of_top (R : Fin 3584 → EReal) (h : ∑ n, R n * R n = ⊤) : inv R = 0 := by
  unfold inv
  rw [h, c3584, ceps]
  have h1 : Ideal.div ⊤ ((3584 : ℝ) : EReal) = ⊤ := by
    unfold Ideal.div
    rw [if_neg (by exact_mod_cast (by norm_num : (3584 : ℝ) ≠ 0)), ← EReal.coe_inv]
    exact EReal.top_mul_coe_of_pos (by norm_num)
  rw [h1, EReal.top_add_coe]
  rfl

/-- The reciprocal root of a finite row. -/
theorem inv_of_real (r : Fin 3584 → ℝ) :
    inv (fun n => (r n : EReal)) = ((1 / Real.sqrt ((∑ n, r n * r n) / 3584 + epsR) : ℝ) : EReal) := by
  unfold inv
  rw [c3584, ceps]
  have hs : (∑ n, (r n : EReal) * (r n : EReal)) = ((∑ n, r n * r n : ℝ) : EReal) := by
    simp only [← EReal.coe_mul]
    exact (map_sum (⟨⟨Real.toEReal, rfl⟩, EReal.coe_add⟩ : ℝ →+ EReal) _ _).symm
  have hp : 0 < (∑ n, r n * r n) / 3584 + epsR :=
    add_pos_of_nonneg_of_pos (div_nonneg (Finset.sum_nonneg fun n _ => mul_self_nonneg _) (by norm_num)) epsR_pos
  rw [hs]
  unfold Ideal.div
  rw [if_neg (by exact_mod_cast (by norm_num : (3584 : ℝ) ≠ 0)), ← EReal.coe_inv, ← EReal.coe_mul, ← EReal.coe_add, ← div_eq_mul_inv]
  rw [one_div]
  exact (if_neg (not_lt.mpr hp.le)).trans (if_neg hp.ne')

/-- Either the row's reciprocal root is 0 or the row is finite. -/
theorem row_cases (R : Fin 3584 → EReal) : inv R = 0 ∨ ∃ r : Fin 3584 → ℝ, R = fun n => (r n : EReal) := by
  by_cases h : ∀ n, R n ≠ ⊤ ∧ R n ≠ ⊥
  · exact .inr ⟨fun n => (R n).toReal, funext fun n => (EReal.coe_toReal (h n).1 (h n).2).symm⟩
  · left
    push Not at h
    obtain ⟨n, hn⟩ := h
    apply inv_of_top
    have hsq : R n * R n = ⊤ := by
      by_cases ht : R n = ⊤
      · rw [ht]; exact EReal.top_mul_top
      · rw [hn ht]; exact EReal.bot_mul_bot
    have := Finset.single_le_sum (f := fun n => R n * R n) (fun i _ => sq_nonneg (R i)) (Finset.mem_univ n)
    exact top_le_iff.mp (hsq ▸ this)

/-- The reciprocal root is at least 0. -/
theorem inv_nonneg (R : Fin 3584 → EReal) : 0 ≤ inv R := by
  rcases row_cases R with h | ⟨r, rfl⟩
  · rw [h]
  · rw [inv_of_real]; exact_mod_cast by positivity

/-- On real numbers, the scaled magnitude is below 2 to the 126. -/
theorem real_bound (S r g : ℝ) (h : r * r ≤ S) (hg : |g| ≤ maxR) :
    |r * g| * (1 / Real.sqrt (S / 3584 + epsR)) * cR < 2 ^ (126 : ℤ) := by
  have he := epsR_pos
  have hS : 0 ≤ S := le_trans (mul_self_nonneg r) h
  set q := Real.sqrt (S / 3584 + epsR) with hq
  have hp : 0 < S / 3584 + epsR := by positivity
  have hq0 : 0 < q := Real.sqrt_pos.mpr hp
  have hqq : q * q = S / 3584 + epsR := Real.mul_self_sqrt hp.le
  have h1 : |r| ≤ 60 * q := by
    exact abs_le_of_sq_le_sq (by nlinarith) (by positivity)
  have h2 : |r| * (1 / q) ≤ 60 := by rw [mul_one_div, div_le_iff₀ hq0]; exact h1
  have h3 : |r * g| * (1 / q) * cR = (|r| * (1 / q)) * |g| * cR := by rw [abs_mul]; ring
  rw [h3]
  have h4 : (|r| * (1 / q)) * |g| ≤ 60 * maxR := mul_le_mul h2 hg (abs_nonneg _) (by norm_num)
  refine lt_of_le_of_lt (mul_le_mul_of_nonneg_right h4 cR_pos.le) ?_
  unfold maxR cR
  norm_num

/-- The magnitude of a real number. -/
theorem mag_coe (x : ℝ) : mag (x : EReal) = ((|x| : ℝ) : EReal) := by
  unfold mag
  rw [← EReal.coe_neg, abs_eq_max_neg]
  exact (EReal.coe_strictMono.monotone.map_max (a := x) (b := -x)).symm

/-- The scaled largest magnitude is below 2 to the 126. -/
theorem bound (R G : Fin 3584 → EReal) (hG : ∀ n, mag (G n) ≤ ((maxR : ℝ) : EReal)) (M : EReal) (hM : IsMax M (fun n => mag (R n * G n))) :
    0 ≤ M ∧ 0 ≤ M * inv R * ((cR : ℝ) : EReal) ∧ M * inv R * ((cR : ℝ) : EReal) < pw 253 := by
  obtain ⟨_, n, rfl⟩ := hM
  have hc : (0 : EReal) ≤ ((cR : ℝ) : EReal) := by exact_mod_cast cR_pos.le
  refine ⟨mag_nonneg _, mul_nonneg (mul_nonneg (mag_nonneg _) (inv_nonneg R)) hc, ?_⟩
  rw [pw_eq 253 (by norm_num) (by norm_num)]
  rcases row_cases R with h | ⟨r, rfl⟩
  · rw [h, mul_zero, zero_mul]
    exact_mod_cast (by positivity : (0 : ℝ) < 2 ^ (((253 : ℕ) : ℤ) - 127))
  · have h1 := hG n
    have ht : G n ≠ ⊤ := by
      intro h; rw [h] at h1; simp [mag] at h1
    have hb : G n ≠ ⊥ := by
      intro h; rw [h] at h1; simp [mag] at h1
    obtain ⟨g, hg⟩ : ∃ g : ℝ, G n = (g : EReal) := ⟨(G n).toReal, (EReal.coe_toReal ht hb).symm⟩
    rw [hg, mag_coe, EReal.coe_le_coe_iff] at h1
    simp only [hg]
    rw [inv_of_real, ← EReal.coe_mul, mag_coe, ← EReal.coe_mul, ← EReal.coe_mul, EReal.coe_lt_coe_iff]
    exact real_bound _ _ _ (Finset.single_le_sum (f := fun n => r n * r n) (fun i _ => mul_self_nonneg (r i)) (Finset.mem_univ n)) h1

/-! ## The two quantisers on a row -/

/-- The exponent the kernel finds. -/
def eK (v : EReal) : BitVec 32 := if Ideal.cmp .oeq v (Ideal.ofBits .f32 0x00000000#32) = 1#1 then 0#32 else bits v - 126#32
/-- The float whose exponent field is `e` plus 127. -/
def pK (e : BitVec 32) : EReal := Ideal.ofBits .f32 (IntOp.shli .vector (e + 127#32) 23#32)
/-- The quantised largest magnitude of the kernel: `M` is the largest magnitude of the row times gamma. -/
def vK (R : Fin 3584 → EReal) (M : EReal) : EReal := M * inv R * Ideal.ofBits .f32 0x3B124925#32

/-- The largest magnitude of the normalised row times gamma. -/
def aR (R G : Fin 3584 → EReal) : EReal := Finset.univ.fold max ⊥ (fun n => mag (R n * inv R * G n))
/-- The scale of a row, as the reference states it: the least power of two above the largest magnitude over 448, or 1 for a row of zeros. -/
def scaleR (R G : Fin 3584 → EReal) : EReal :=
  if Ideal.cmp .oeq (aR R G) (Ideal.ofBits .f32 0x00000000#32) = 1#1 then Ideal.ofBits .f32 0x3F800000#32 else
    Finset.univ.fold min (Ideal.ofBits .f32 0x7F800000#32) (fun i : Fin 254 =>
      if Ideal.cmp .olt (aR R G * Ideal.ofBits .f32 0x3B124925#32) (pr i) = 1#1 then pr i else Ideal.ofBits .f32 0x7F800000#32)
/-- A code of a row, as the reference states it: the normalised element times gamma over the scale, held between -448 and 448. -/
def codeR (R G : Fin 3584 → EReal) (n : Fin 3584) : EReal :=
  min (Ideal.ofBits .f32 0x43E00000#32) (max (Ideal.ofBits .f32 0xC3E00000#32)
    (R n * inv R * G n * Ideal.div (Ideal.ofBits .f32 0x3F800000#32) (scaleR R G)))
/-- A code of a row, as the kernel computes it. -/
def codeK (R G : Fin 3584 → EReal) (M : EReal) (n : Fin 3584) : EReal :=
  min (Ideal.ofBits .f32 0x43E00000#32) (max (Ideal.ofBits .f32 0xC3E00000#32) (R n * (inv R * pK (0#32 - eK (vK R M))) * G n))

/-- What the shifts of the exponent and of its negative give. -/
theorem fieldsE : ∀ n : Fin 253, IntOp.shli .vector (BitVec.ofNat 32 n.val - 126#32 + 127#32) 23#32 = BitVec.ofNat 32 ((n.val + 1) * 8388608)
    ∧ IntOp.shli .vector (0#32 - (BitVec.ofNat 32 n.val - 126#32) + 127#32) 23#32 = BitVec.ofNat 32 ((253 - n.val) * 8388608) := by
  decide +kernel

/-- The largest magnitude times the reciprocal root is the largest magnitude of the normalised row. -/
theorem aR_eq (R G : Fin 3584 → EReal) (M : EReal) (hM : IsMax M (fun n => mag (R n * G n))) : M * inv R = aR R G := by
  have hf : (fun n => mag (R n * inv R * G n)) = fun n => mag (R n * G n) * inv R := by
    funext n
    rw [mul_right_comm, mag_mul _ _ (inv_nonneg R)]
  refine IsMax.unique (f := fun n => mag (R n * inv R * G n)) ?_ (isMax_fold _)
  rw [hf]
  obtain ⟨h1, k, hk⟩ := hM
  exact ⟨fun n => mul_le_mul_of_nonneg_right (h1 n) (inv_nonneg R), k, congrArg (· * inv R) hk⟩

/-- The comparison for equality. -/
theorem cmp_eq (x y : EReal) : (Ideal.cmp .oeq x y = 1#1) ↔ x = y := by
  show BitVec.ofBool (decide (x = y)) = 1#1 ↔ _
  by_cases h : x = y <;> simp [h]

/-- The comparison for less. -/
theorem cmp_lt (x y : EReal) : (Ideal.cmp .olt x y = 1#1) ↔ x < y := by
  show BitVec.ofBool (decide (x < y)) = 1#1 ↔ _
  by_cases h : x < y <;> simp [h]

/-- The float 1. -/
theorem one_eq : Ideal.ofBits .f32 0x3F800000#32 = 1 := by
  have := pw_eq 127 (by norm_num) (by norm_num)
  simpa [pw] using this

/-- The kernel's scale and what it multiplies by, in terms of the reference's scale. -/
theorem scale_eq (R G : Fin 3584 → EReal) (hG : ∀ n, mag (G n) ≤ ((maxR : ℝ) : EReal)) (M : EReal) (hM : IsMax M (fun n => mag (R n * G n))) :
    pK (eK (vK R M)) = scaleR R G ∧ pK (0#32 - eK (vK R M)) = Ideal.div (Ideal.ofBits .f32 0x3F800000#32) (scaleR R G) := by
  obtain ⟨_, h0, hb⟩ := bound R G hG M hM
  have ha := aR_eq R G M hM
  unfold scaleR eK vK
  simp only [cmp_eq, cmp_lt]
  rw [cc]
  rw [ha] at h0 hb ⊢
  have hz : Ideal.ofBits .f32 0x00000000#32 = 0 := pw_zero
  have ht : Ideal.ofBits .f32 0x7F800000#32 = ⊤ := pw_top
  rw [hz, ht, one_eq]
  by_cases h : aR R G = 0
  · rw [if_pos (by rw [h, zero_mul]), if_pos h]
    have e1 : pK 0#32 = 1 := one_eq
    have e2 : pK (0#32 - 0#32) = 1 := one_eq
    rw [e1, e2]
    refine ⟨rfl, ?_⟩
    unfold Ideal.div
    rw [if_neg one_ne_zero]
    have := EReal.coe_inv (1 : ℝ)
    simp
  · have hv : aR R G * ((cR : ℝ) : EReal) ≠ 0 := by
      refine mul_ne_zero h ?_
      exact_mod_cast cR_pos.ne'
    rw [if_neg hv, if_neg h]
    obtain ⟨hn, h2, h3⟩ := bits_spec _ h0 hb
    rw [min_pr _ _ hn h2 h3]
    generalize bits (aR R G * ((cR : ℝ) : EReal)) = b at *
    obtain ⟨f1, f2⟩ := fieldsE ⟨b.toNat, by omega⟩
    have hbb : BitVec.ofNat 32 b.toNat = b := by simp
    simp only [hbb] at f1 f2
    unfold pK
    rw [f1, f2]
    refine ⟨rfl, ?_⟩
    show pw (253 - b.toNat) = _
    rw [pw_eq _ (by omega) (by omega), pw_eq _ (by omega) (by omega)]
    unfold Ideal.div
    rw [if_neg (by exact_mod_cast (by positivity : (2 : ℝ) ^ (((b.toNat + 1 : ℕ) : ℤ) - 127) ≠ 0)), ← EReal.coe_inv, one_mul, ← zpow_neg]
    congr 2
    omega

/-- The kernel's code is the reference's. -/
theorem code_eq (R G : Fin 3584 → EReal) (hG : ∀ n, mag (G n) ≤ ((maxR : ℝ) : EReal)) (M : EReal) (hM : IsMax M (fun n => mag (R n * G n)))
    (n : Fin 3584) : codeK R G M n = codeR R G n := by
  unfold codeK codeR
  rw [(scale_eq R G hG M hM).2]
  congr 2
  rw [← mul_assoc, mul_right_comm]

end Cert.Num

end
-- ==== Proof.K.QuantVal.lean ====
module

public import proofs.«01_k».proof.Proof.K.Blocks
public import proofs.«01_k».proof.Proof.K.Row
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Cert.Num

variable (R : Vec Ideal S256x3584 .bf16) (Gm : Vec Ideal S1x3584 .bf16)

/-- A row of the block. -/
def rowOf (q : Fin 256) (n : Fin 3584) : EReal := R (ix2 q n)
/-- Gamma. -/
def gOf (n : Fin 3584) : EReal := Gm (ix2 0 n)

/-- A tile of the block, at an element. -/
theorem vR_tile (g : Fin 8) (t : Fin 28) (r : Fin 32) (l : Fin 128) :
    vR (tileR R g t) (ix2 r l) = rowOf R ⟨32 * g.val + r.val, by omega⟩ ⟨128 * t.val + l.val, by omega⟩ := by
  pointwise [vR]
  rfl

/-- A tile of gamma, at an element. -/
theorem vG_tile (t : Fin 28) (r : Fin 32) (l : Fin 128) :
    vG (View.ld Gm (rG t)) (ix2 r l) = gOf Gm ⟨128 * t.val + l.val, by omega⟩ := by
  pointwise [vG]
  rfl

/-- The lane's sum of squares after `n` tiles. -/
theorem sq_apply (g : Fin 8) (r : Fin 32) (l : Fin 128) (n : ℕ) (hn : n ≤ 28) :
    (sq R g n (ix2 r l) : EReal) = ∑ t ∈ Finset.range n, (if h : t < 28 then
      rowOf R ⟨32 * g.val + r.val, by omega⟩ ⟨128 * t + l.val, by omega⟩ * rowOf R ⟨32 * g.val + r.val, by omega⟩ ⟨128 * t + l.val, by omega⟩ else 0) := by
  induction n with
  | zero =>
    rw [sq]
    pointwise [vZero]
    simp
  | succ n ih =>
    rw [sq_succ R g n (by omega), Finset.sum_range_succ, dif_pos (by omega), ← ih (by omega)]
    show (sq R g n (ix2 r l) : EReal) + vR _ (ix2 r l) * vR _ (ix2 r l) = _
    rw [vR_tile]

/-- The lane's largest magnitude after `n` tiles. -/
theorem am_apply (g : Fin 8) (r : Fin 32) (l : Fin 128) (n : ℕ) (hn : n ≤ 28) :
    (∀ t : Fin 28, t.val < n → mag (rowOf R ⟨32 * g.val + r.val, by omega⟩ ⟨128 * t.val + l.val, by omega⟩ * gOf Gm ⟨128 * t.val + l.val, by omega⟩)
        ≤ (am R Gm g n (ix2 r l) : EReal))
    ∧ ((am R Gm g n (ix2 r l) : EReal) = 0 ∨ ∃ t : Fin 28,
      mag (rowOf R ⟨32 * g.val + r.val, by omega⟩ ⟨128 * t.val + l.val, by omega⟩ * gOf Gm ⟨128 * t.val + l.val, by omega⟩) = (am R Gm g n (ix2 r l) : EReal)) := by
  induction n with
  | zero =>
    refine ⟨fun t h => absurd h (by omega), .inl ?_⟩
    rw [am]
    pointwise [vZero]
  | succ n ih =>
    obtain ⟨i1, i2⟩ := ih (by omega)
    rw [am_succ R Gm g n (by omega)]
    have e : (vAmax (am R Gm g n) (tileR R g ⟨n, by omega⟩) (View.ld Gm (rG ⟨n, by omega⟩)) (ix2 r l) : EReal)
      = max (am R Gm g n (ix2 r l) : EReal) (mag (rowOf R ⟨32 * g.val + r.val, by omega⟩ ⟨128 * n + l.val, by omega⟩ * gOf Gm ⟨128 * n + l.val, by omega⟩)) := by
      show max (am R Gm g n (ix2 r l) : EReal) (mag ((vR (tileR R g ⟨n, by omega⟩) (ix2 r l) : EReal) * (vG (View.ld Gm (rG ⟨n, by omega⟩)) (ix2 r l) : EReal))) = _
      rw [vR_tile, vG_tile]
    rw [e]
    refine ⟨fun t h => ?_, ?_⟩
    · by_cases ht : t.val < n
      · exact le_max_of_le_left (i1 t ht)
      · have hte : t = ⟨n, by omega⟩ := Fin.ext (by show t.val = n; omega)
        rw [hte]
        exact le_max_right _ _
    · rcases max_choice (am R Gm g n (ix2 r l) : EReal) (mag (rowOf R ⟨32 * g.val + r.val, by omega⟩ ⟨128 * n + l.val, by omega⟩ * gOf Gm ⟨128 * n + l.val, by omega⟩)) with h | h
      · rw [h]; exact i2
      · right; exact ⟨⟨n, by omega⟩, h.symm⟩

/-- The reciprocal root, at a row. -/
theorem vInv_apply (s : FVec Ideal S32x128 .f32) (r : Fin 32) :
    (vInv s (ix2 r 0) : EReal) = Ideal.rsqrt (Ideal.div (∑ l : Fin 128, s (ix2 r l)) (Ideal.ofBits .f32 0x45600000#32) + Ideal.ofBits .f32 0x358637BD#32) := by
  pointwise [vInv]

/-- The scaled largest magnitude, at an element. -/
theorem vV_apply (i : FVec Ideal S32x1 .f32) (a : FVec Ideal S32x128 .f32) (r : Fin 32) (l : Fin 128) :
    (vV i a (ix2 r l) : EReal) = Finset.univ.fold max ⊥ (fun l : Fin 128 => (a (ix2 r l) : EReal)) * i (ix2 r 0) * Ideal.ofBits .f32 0x3B124925#32 := by
  pointwise [vV]
  have h : Ideal.ofBits .f32 0xFF800000#32 = ⊥ := by simp [Ideal.ofBits, Ideal.ieee]
  rw [h]

/-- What a row is multiplied by, at an element. -/
theorem vMul_apply (i : FVec Ideal S32x1 .f32) (e : IVec S32x128 32) (r : Fin 32) (l : Fin 128) :
    (vMul i e (ix2 r l) : EReal) = i (ix2 r 0) * pK (0#32 - e (ix2 r l)) := by
  pointwise [vMul]
  rfl

/-- One step of the search, at an element. -/
theorem vBit_apply (v : FVec Ideal S32x128 .f32) (b : IVec S32x128 32) (s : BitVec 32) (j : S32x128.Idx) : vBit v b s j = bit (v j) (b j) s := by
  pointwise [vBit]
  unfold bit
  simp only [cmp_lt]
  rfl

/-- The search, at an element. -/
theorem vBits_apply (v : FVec Ideal S32x128 .f32) (j : S32x128.Idx) : vBits v j = bits (v j) := by
  unfold vBits bits
  rw [vBit_apply, vBit_apply, vBit_apply, vBit_apply, vBit_apply, vBit_apply, vBit_apply, vBit_apply]
  rfl

/-- The exponent, at an element. -/
theorem vE_apply (v : FVec Ideal S32x128 .f32) (j : S32x128.Idx) : vE v j = eK (v j) := by
  pointwise [vE, vBits_apply]
  have hz : Ideal.ofBits .f32 0x00000000#32 = 0 := pw_zero
  unfold eK
  simp only [cmp_eq, hz]
  rfl

/-- The scale, at an element. -/
theorem vPow_apply (e : IVec S32x128 32) (j : S32x128.Idx) : (vPow (F := Ideal) e j : EReal) = pK (e j) := rfl

/-- The scales of four groups laid along the lanes, at a lane. -/
theorem vS_apply (a b c d : FVec Ideal S32x128 .f32) (l : Fin 128) :
    (vS a b c d (ix3 0 0 l) : EReal) = if l.val / 32 = 0 then a (ix2 ⟨l.val % 32, by omega⟩ 0) else if l.val / 32 = 1 then b (ix2 ⟨l.val % 32, by omega⟩ 0)
      else if l.val / 32 = 2 then c (ix2 ⟨l.val % 32, by omega⟩ 0) else d (ix2 ⟨l.val % 32, by omega⟩ 0) := by
  pointwise [vS]
  have hl : l.val < 128 := l.isLt
  have e : ∀ (x : FVec Ideal S32x128 .f32) (p q : Fin 32), p.val = q.val → x (ix2 p 0) = x (ix2 q 0) :=
    fun x p q h => by rw [Fin.ext h]
  by_cases h1 : l.val < 32
  · refine (dif_pos h1).trans ((e a _ ⟨l.val % 32, by omega⟩ ?_).trans (if_pos (by omega)).symm)
    dsimp only; omega
  refine (dif_neg h1).trans (Eq.trans ?_ (if_neg (by omega)).symm)
  by_cases h2 : l.val - 32 < 32
  · refine (dif_pos h2).trans ((e b _ ⟨l.val % 32, by omega⟩ ?_).trans (if_pos (by omega)).symm)
    dsimp only; omega
  refine (dif_neg h2).trans (Eq.trans ?_ (if_neg (by omega)).symm)
  by_cases h3 : l.val - 32 - 32 < 32
  · refine (dif_pos h3).trans ((e c _ ⟨l.val % 32, by omega⟩ ?_).trans (if_pos (by omega)).symm)
    dsimp only; omega
  refine (dif_neg h3).trans (Eq.trans ?_ (if_neg (by omega)).symm)
  refine e d _ ⟨l.val % 32, by omega⟩ ?_
  dsimp only; omega

/-- A sum over lanes and tiles is the sum over the columns. -/
theorem sum_tiles (f : Fin 3584 → EReal) :
    (∑ l : Fin 128, ∑ t ∈ Finset.range 28, (if h : t < 28 then f ⟨128 * t + l.val, by omega⟩ else 0)) = ∑ n, f n := by
  simp only [Finset.sum_range, Fin.is_lt, dite_true]
  rw [Finset.sum_comm, ← Fintype.sum_prod_type']
  refine Fintype.sum_equiv (finProdFinEquiv (m := 28) (n := 128)) _ _ fun p => ?_
  congr 1
  apply Fin.ext
  show 128 * p.1.val + p.2.val = p.2.val + 128 * p.1.val
  omega

/-- The reciprocal root a group uses for its row `r`. -/
theorem inv_apply (g : Fin 8) (r : Fin 32) : (vInv (sq R g 28) (ix2 r 0) : EReal) = Num.inv (rowOf R ⟨32 * g.val + r.val, by omega⟩) := by
  rw [vInv_apply]
  unfold Num.inv
  simp only [sq_apply R g r _ 28 (le_refl 28)]
  rw [sum_tiles (fun n => rowOf R ⟨32 * g.val + r.val, by omega⟩ n * rowOf R ⟨32 * g.val + r.val, by omega⟩ n)]

/-- The largest magnitude a group finds for its row `r`. -/
def amM (g : Fin 8) (r : Fin 32) : EReal := Finset.univ.fold max ⊥ (fun l : Fin 128 => (am R Gm g 28 (ix2 r l) : EReal))

/-- It is the largest magnitude of the row times gamma. -/
theorem amM_isMax (g : Fin 8) (r : Fin 32) :
    IsMax (amM R Gm g r) (fun n => mag (rowOf R ⟨32 * g.val + r.val, by omega⟩ n * gOf Gm n)) := by
  have hle : ∀ n : Fin 3584, mag (rowOf R ⟨32 * g.val + r.val, by omega⟩ n * gOf Gm n) ≤ amM R Gm g r := by
    intro n
    have h := (am_apply R Gm g r ⟨n.val % 128, by omega⟩ 28 (le_refl 28)).1 ⟨n.val / 128, by omega⟩ (by show n.val / 128 < 28; omega)
    have e : (⟨128 * (n.val / 128) + n.val % 128, by omega⟩ : Fin 3584) = n := Fin.ext (by dsimp only; omega)
    simp only [e] at h
    exact (Finset.le_fold_max _).mpr (.inr ⟨⟨n.val % 128, by omega⟩, Finset.mem_univ _, h⟩)
  refine ⟨hle, ?_⟩
  have hM0 : 0 ≤ amM R Gm g r := le_trans (mag_nonneg _) (hle 0)
  rcases (Finset.le_fold_max (s := Finset.univ) (f := fun l : Fin 128 => (am R Gm g 28 (ix2 r l) : EReal)) (b := ⊥) (amM R Gm g r)).mp le_rfl with h | ⟨l, _, h⟩
  · exact absurd (le_trans hM0 h) (by simp)
  · rcases (am_apply R Gm g r l 28 (le_refl 28)).2 with h0 | ⟨t, ht⟩
    · rw [h0] at h
      exact ⟨0, le_antisymm (hle 0) (le_trans h (mag_nonneg _))⟩
    · exact ⟨_, le_antisymm (hle ⟨128 * t.val + l.val, by omega⟩) (ht ▸ h)⟩

/-- The exponent a group finds, at an element. -/
theorem eOf_apply (g : Fin 8) (r : Fin 32) (l : Fin 128) :
    eOf R Gm g (ix2 r l) = eK (vK (rowOf R ⟨32 * g.val + r.val, by omega⟩) (amM R Gm g r)) := by
  unfold eOf vK
  rw [vE_apply, vV_apply, inv_apply]
  rfl

/-- A code of the block, at an element. -/
theorem yOf_apply (hG : ∀ n, mag (gOf Gm n) ≤ ((maxR : ℝ) : EReal)) (q : Fin 256) (n : Fin 3584) :
    (yOf R Gm (ix2 q n) : EReal) = codeR (rowOf R q) (gOf Gm) n := by
  have eq : (⟨32 * (q.val / 32) + q.val % 32, by omega⟩ : Fin 256) = q := Fin.ext (by dsimp only; omega)
  have en : (⟨128 * (n.val / 128) + n.val % 128, by omega⟩ : Fin 3584) = n := Fin.ext (by dsimp only; omega)
  have hM := amM_isMax R Gm ⟨q.val / 32, by omega⟩ ⟨q.val % 32, by omega⟩
  simp only [eq] at hM
  rw [← code_eq _ _ hG _ hM n]
  unfold codeK
  have h1 := vR_tile R ⟨q.val / 32, by omega⟩ ⟨n.val / 128, by omega⟩ ⟨q.val % 32, by omega⟩ ⟨n.val % 128, by omega⟩
  have h2 := vG_tile Gm ⟨n.val / 128, by omega⟩ ⟨q.val % 32, by omega⟩ ⟨n.val % 128, by omega⟩
  have h3 : (mOf R Gm ⟨q.val / 32, by omega⟩ (ix2 ⟨q.val % 32, by omega⟩ ⟨n.val % 128, by omega⟩) : EReal)
      = Num.inv (rowOf R q) * pK (0#32 - eK (vK (rowOf R q) (amM R Gm ⟨q.val / 32, by omega⟩ ⟨q.val % 32, by omega⟩))) := by
    unfold mOf
    rw [vMul_apply, inv_apply, eOf_apply]
    simp only [eq]
  simp only [eq, en] at h1 h2
  rw [← h1, ← h2, ← h3]
  rfl

/-- A scale of the block, at a row. -/
theorem sOf_apply (hG : ∀ n, mag (gOf Gm n) ≤ ((maxR : ℝ) : EReal)) (b : Fin 2) (l : Fin 128) :
    (sOf R Gm (ix3 0 b l) : EReal) = scaleR (rowOf R ⟨128 * b.val + l.val, by omega⟩) (gOf Gm) := by
  have key : ∀ (g : Fin 8) (r : Fin 32), 32 * g.val + r.val = 128 * b.val + l.val →
      (pOf R Gm g (ix2 r 0) : EReal) = scaleR (rowOf R ⟨128 * b.val + l.val, by omega⟩) (gOf Gm) := by
    intro g r h
    have hM := amM_isMax R Gm g r
    simp only [h] at hM
    rw [← (scale_eq _ _ hG _ hM).1]
    unfold pOf
    rw [vPow_apply, eOf_apply]
    simp only [h]
  have hl : l.val < 128 := l.isLt
  show (vS (pOf R Gm ⟨4 * b.val, by omega⟩) (pOf R Gm ⟨4 * b.val + 1, by omega⟩) (pOf R Gm ⟨4 * b.val + 2, by omega⟩)
    (pOf R Gm ⟨4 * b.val + 3, by omega⟩) (ix3 0 0 l) : EReal) = _
  rw [vS_apply]
  split_ifs
  · exact key _ _ (by show 32 * (4 * b.val) + l.val % 32 = _; omega)
  · exact key _ _ (by show 32 * (4 * b.val + 1) + l.val % 32 = _; omega)
  · exact key _ _ (by show 32 * (4 * b.val + 2) + l.val % 32 = _; omega)
  · exact key _ _ (by show 32 * (4 * b.val + 3) + l.val % 32 = _; omega)

end Cert.KernelIdeal.Gen

end
-- ==== Proof.K.QuantArr.lean ====
module

public import proofs.«01_k».proof.Proof.K.OutArr
public import proofs.«01_k».proof.Proof.K.QuantVal
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window)
open Cert.Spec (cast_x cast_r cast_s cast_b cast_w)
open Cert.Num

variable (m : (ℓ : Loc nD τ sig) → Buf (Elt Ideal) ℓ)

/-- Gamma, as the launch finds it. -/
def A5 (c : Dev nD) : FVec Ideal S3584 .bf16 := m ((c : Thread nD τ).loc main_arg5)

/-- A row of the projection of this memory's argument arrays. -/
def rowM (c : Dev nD) (q : Fin 3072) (n : Fin 3584) : EReal := outM m c (ix2 q n)
/-- Gamma of this memory. -/
def gM (c : Dev nD) (n : Fin 3584) : EReal := A5 m c (ix1 n)

/-- Where window 5 lies. -/
theorem ind5 : ∀ t : Fin cfg0.N, win0_5.index t = ![0, 0] := (by decide +kernel : ∀ t : Fin grid0.N, _)

/-- Argument 5 where the region is entered. -/
theorem ent5 (c : Dev nD) : (V m c main_v4 : S1x3584.Idx → EReal) = shapeCast S1x3584 (A5 m c) shapeCasts_S3584_S1x3584 := by
  entry_read
  rfl

/-- Input window 5's block, at an element. -/
theorem blk5 (c : Dev nD) (t : Fin cfg0.N) (n : Fin 3584) : (iblk m c 5 t (ix2 0 n) : EReal) = gM m c n := by
  have e : (win0_5.blk t).view.emb (ix2 0 n) = (ix2 0 n) := by blk_ext [ind5]
  show (V m c main_v4 : S1x3584.Idx → EReal) ((win0_5.blk t).view.emb (ix2 0 n)) = _
  rw [ent5, e]
  exact cast_w _ _ _

/-- Where window 7 lies. -/
theorem ind7 : ∀ t : Fin cfg0.N, win0_7.index t = ![t.val - 1, 0] := (by decide +kernel : ∀ t : Fin grid0.N, _)
/-- Where window 8 lies. -/
theorem ind8 : ∀ t : Fin cfg0.N, win0_8.index t = ![t.val - 1, 0, 0] := (by decide +kernel : ∀ t : Fin grid0.N, _)

/-- The point before is a projecting point. -/
theorem cl_pt (t : Fin cfg0.N) : cl (pt t) = pt t := by
  have hN : t.val < 13 := t.isLt
  apply Fin.ext
  show min (t.val - 1) 11 = t.val - 1
  omega

/-- A row of the block projected at the point before. -/
theorem row_blk (c : Dev nD) (t : Fin cfg0.N) (r : Fin 256) (h : (t.val - 1) * 256 + r.val < 3072) :
    rowOf (blkR m c (pt t)) r = rowM m c ⟨(t.val - 1) * 256 + r.val, h⟩ := by
  funext n
  have hN : t.val < 13 := t.isLt
  unfold rowOf rowM blkR
  rw [oOf_apply]
  unfold outM Cert.Spec.outG
  dsimp only [ix2_0, ix2_1]
  have hm : min (pt t).val 11 = t.val - 1 := by show min (t.val - 1) 11 = t.val - 1; omega
  have h' : min (pt t).val 11 * 256 + r.val < 3072 := by rw [hm]; exact h
  have b0 := fun k => blk0 m c (pt t) r k h'
  have b1 := blk1 m c (pt t) r h'
  have b2 := fun k n => blk2 m c (pt t) r k n h'
  have b3 := fun n => blk3 m c (pt t) r n h'
  have b4 := fun n => blk4 m c (pt t) r n h'
  rw [cl_pt] at b0 b1 b2 b3 b4
  simp only [hm] at b0 b1 b2 b3 b4
  reads_congr
  exacts [b0 _, b2 _ _, b1, b3 _, b4 _]

/-- Gamma, as the body reads it. -/
theorem g_blk (c : Dev nD) (t : Fin cfg0.N) : gOf (iblk m c 5 t) = gM m c := by
  funext n
  exact blk5 m c t n

/-- The codes of all the rows. -/
def codeM (c : Dev nD) : S3072x3584.Idx → EReal := fun j => codeR (rowM m c ⟨(j 0).val, (j 0).isLt⟩) (gM m c) ⟨(j 1).val, (j 1).isLt⟩
/-- The scales of all the rows, in blocks of two rows of 128. -/
def scaleB (c : Dev nD) : S12x2x128.Idx → EReal := fun j =>
  have h0 : (j 0).val < 12 := (j 0).isLt
  have h1 : (j 1).val < 2 := (j 1).isLt
  have h2 : (j 2).val < 128 := (j 2).isLt
  scaleR (rowM m c ⟨(j 0).val * 256 + (j 1).val * 128 + (j 2).val, by omega⟩) (gM m c)

/-- After the run the second result's array holds the codes of all the rows, when gamma's magnitudes are bounded. -/
theorem final7 (c : Dev nD) (hG : ∀ n, mag (gM m c n) ≤ ((maxR : ℝ) : EReal)) : (dats m 0 c).arrAt 7 cfg0.N = codeM m c := by
  refine (dats m 0 c).arrAt_eq_of_covers 7 _ (by decide +kernel) fun t hf y => ?_
  blk_simp
  rw [after0_7]
  obtain ⟨r, n, rfl⟩ : ∃ (r : Fin 256) (n : Fin 3584), y = ix2 r n := ⟨y 0, y 1, eq_ix2 y⟩
  have hN : t.val < 13 := t.isLt
  have h : (t.val - 1) * 256 + r.val < 3072 := by omega
  have e0 : ((win0_7.blk t).view.emb (ix2 r n) 0 : ℕ) = (t.val - 1) * 256 + r.val := by blk_simp [ind7]; try rfl
  have e1 : ((win0_7.blk t).view.emb (ix2 r n) 1 : ℕ) = n.val := by blk_simp [ind7]; try rfl
  refine (yOf_apply _ _ (by rw [g_blk]; exact hG) r n).trans ?_
  rw [g_blk, row_blk m c t r h]
  unfold codeM
  simp only [e0, e1]

/-- After the run the third result's array holds the scales of all the rows, when gamma's magnitudes are bounded. -/
theorem final8 (c : Dev nD) (hG : ∀ n, mag (gM m c n) ≤ ((maxR : ℝ) : EReal)) : (dats m 0 c).arrAt 8 cfg0.N = scaleB m c := by
  refine (dats m 0 c).arrAt_eq_of_covers 8 _ (by decide +kernel) fun t hf y => ?_
  blk_simp
  rw [after0_8]
  obtain ⟨b, l, rfl⟩ : ∃ (b : Fin 2) (l : Fin 128), y = ix3 0 b l := ⟨y 1, y 2, by
    refine (eq_ix3 y).trans ((ix3_inj _ _ _ _ _ _).mpr ⟨Subsingleton.elim _ _, rfl, rfl⟩)⟩
  have hN : t.val < 13 := t.isLt
  have h : (t.val - 1) * 256 + (128 * b.val + l.val) < 3072 := by omega
  have e0 : ((win0_8.blk t).view.emb (ix3 0 b l) 0 : ℕ) = t.val - 1 := by blk_simp [ind8]; try rfl
  have e1 : ((win0_8.blk t).view.emb (ix3 0 b l) 1 : ℕ) = b.val := by blk_simp [ind8]; try rfl
  have e2 : ((win0_8.blk t).view.emb (ix3 0 b l) 2 : ℕ) = l.val := by blk_simp [ind8]; try rfl
  refine (sOf_apply _ _ (by rw [g_blk]; exact hG) b l).trans ?_
  rw [g_blk, row_blk m c t ⟨128 * b.val + l.val, by omega⟩ h]
  unfold scaleB
  simp only [e0, e1, e2]
  congr 2
  apply Fin.ext
  dsimp only
  omega

/-- The second result, after the reshapes that follow the call. -/
theorem tail7 (c : Dev nD) : Pipeline.afterTail₀ cfgs (dats m) 0 (V0 m) [hostOps1] c main_v7
    = shapeCast S3x1024x3584 ((dats m 0 c).arrAt 7 cfg0.N) shapeCasts_S3072x3584_S3x1024x3584 := by
  unfold Pipeline.afterTail₀
  simp only [hostOps1, List.flatten_cons, List.flatten_nil, List.append_nil]
  after_results
  have h := Pipeline.withArrays_arr (cfgs 0).spec (by decide : Function.Injective (Pipeline.arrRef spec0)) c (V0 m c) (fun w => (dats m 0 c).arrAt w (cfgs 0).N) 7
  exact congrArg (fun x : S3072x3584.Idx → Ideal .fp8e4m3 => shapeCast S3x1024x3584 x shapeCasts_S3072x3584_S3x1024x3584) h

/-- The third result, after the reshapes that follow the call. -/
theorem tail8 (c : Dev nD) : Pipeline.afterTail₀ cfgs (dats m) 0 (V0 m) [hostOps1] c main_v8
    = shapeCast S3x1024x1 ((dats m 0 c).arrAt 8 cfg0.N) shapeCasts_S12x2x128_S3x1024x1 := by
  unfold Pipeline.afterTail₀
  simp only [hostOps1, List.flatten_cons, List.flatten_nil, List.append_nil]
  after_results
  have h := Pipeline.withArrays_arr (cfgs 0).spec (by decide : Function.Injective (Pipeline.arrRef spec0)) c (V0 m c) (fun w => (dats m 0 c).arrAt w (cfgs 0).N) 8
  exact congrArg (fun x : S12x2x128.Idx → Ideal .f32 => shapeCast S3x1024x1 x shapeCasts_S12x2x128_S3x1024x1) h

variable (g : Dev nD → PrngReg)

/-- From any memory the program ends with its three results at the arrays of the call, and its arguments as they were. -/
theorem run678 : θ_run defs (onTc (τ := τ) (main (F := Ideal))) ⟨m, fun _ => 0, g⟩ (fun r => ∀ c : Dev nD,
      r.2.mem ((c.tc : Thread nD τ).loc main_v6) = shapeCast S3x1024x3584 ((dats m 0 c).arrAt 6 cfg0.N) shapeCasts_S3072x3584_S3x1024x3584
      ∧ r.2.mem ((c.tc : Thread nD τ).loc main_v7) = shapeCast S3x1024x3584 ((dats m 0 c).arrAt 7 cfg0.N) shapeCasts_S3072x3584_S3x1024x3584
      ∧ r.2.mem ((c.tc : Thread nD τ).loc main_v8) = shapeCast S3x1024x1 ((dats m 0 c).arrAt 8 cfg0.N) shapeCasts_S12x2x128_S3x1024x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from run_main m g
  · exact tail6 m c
  · exact tail7 m c
  · exact tail8 m c
  · exact W_main_arg0 m (dats m) c
  · exact W_main_arg1 m (dats m) c
  · exact W_main_arg3 m (dats m) c
  · exact W_main_arg4 m (dats m) c
  · exact W_main_arg5 m (dats m) c

end Cert.KernelIdeal.Gen

end
-- ==== Proof.K.RefArr.lean ====
module

public import proofs.«01_k».proof.Proof.K.Spec
public import proofs.«01_k».proof.Proof.Gen.ReferenceIdeal.Frame
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic
open Idealize.ShloMosaic.Pipeline (Dat Cfg Window)
open Cert.Spec (cast_x cast_r cast_s cast_b cast_w)

variable (m : (ℓ : Loc nD τ sig) → Buf (Elt Ideal) ℓ)

/-- The reference's projection, at an element. -/
theorem pay3_apply (x : Vec Ideal S3072x2176 .fp8e4m3) (w : Vec Ideal S2176x3584 .fp8e4m3) (xs : Vec Ideal S3072x1 .f32)
    (ws : Vec Ideal S1x3584 .f32) (res : Vec Ideal S3072x3584 .bf16) (r : Fin 3072) (n : Fin 3584) :
    k0_pay3 x w xs ws res (ix2 r n)
      = (∑ k : Fin 2176, (x (ix2 r k) : EReal) * w (ix2 k n)) * xs (ix2 r 0) * ws (ix2 0 n) + res (ix2 r n) := by
  pointwise [k0_pay3]

/-- The codes, as the launch finds them. -/
def A0 (c : Dev nD) : FVec Ideal S3x1024x2176 .fp8e4m3 := m ((c : Thread nD τ).loc main_arg0)
/-- The rows' scales, as the launch finds them. -/
def A1 (c : Dev nD) : FVec Ideal S3x1024x1 .f32 := m ((c : Thread nD τ).loc main_arg1)
/-- The weights, as the launch finds them. -/
def A2 (c : Dev nD) : FVec Ideal S2176x3584 .fp8e4m3 := m ((c : Thread nD τ).loc main_arg2)
/-- The columns' scales, as the launch finds them. -/
def A3 (c : Dev nD) : FVec Ideal S3584 .f32 := m ((c : Thread nD τ).loc main_arg3)
/-- The residual, as the launch finds them. -/
def A4 (c : Dev nD) : FVec Ideal S3x1024x3584 .bf16 := m ((c : Thread nD τ).loc main_arg4)

/-- The projection, of this memory's argument arrays. -/
def outM (c : Dev nD) : S3072x3584.Idx → EReal := Cert.Spec.outG (A0 m c) (A1 m c) (A2 m c) (A3 m c) (A4 m c)

theorem ind0 : ∀ t : Fin cfg0.N, win0_0.index t = ![0, 0] := (by decide +kernel : ∀ t : Fin grid0.N, _)
theorem ind1 : ∀ t : Fin cfg0.N, win0_1.index t = ![0, 0] := (by decide +kernel : ∀ t : Fin grid0.N, _)
theorem ind2 : ∀ t : Fin cfg0.N, win0_2.index t = ![0, 0] := (by decide +kernel : ∀ t : Fin grid0.N, _)
theorem ind3 : ∀ t : Fin cfg0.N, win0_3.index t = ![0, 0] := (by decide +kernel : ∀ t : Fin grid0.N, _)
theorem ind4 : ∀ t : Fin cfg0.N, win0_4.index t = ![0, 0] := (by decide +kernel : ∀ t : Fin grid0.N, _)
theorem ind6 : ∀ t : Fin cfg0.N, win0_6.index t = ![0, 0] := (by decide +kernel : ∀ t : Fin grid0.N, _)

/-- The weights where the region is entered. -/
theorem ent2 (c : Dev nD) : (V m c main_arg2 : S2176x3584.Idx → EReal) = A2 m c := V_main_arg2 m c

/-- Argument 0 where the region is entered. -/
theorem ent0 (c : Dev nD) : (V m c main_v0 : S3072x2176.Idx → EReal) = shapeCast S3072x2176 (A0 m c) shapeCasts_S3x1024x2176_S3072x2176 := by
  entry_read
  rfl

/-- Input window 0's block, at an element. -/
theorem blk0 (c : Dev nD) (t : Fin cfg0.N) (r : Fin 3072) (k : Fin 2176) (h : r.val < 3072) : (iblk m c 0 t (ix2 r k) : EReal)
    = A0 m c (ix3 ⟨(r.val) / 1024, by omega⟩ ⟨(r.val) % 1024, by omega⟩ k) := by
  have e : (win0_0.blk t).view.emb (ix2 r k) = (ix2 ⟨r.val, h⟩ k) := by blk_ext [ind0]
  show (V m c main_v0 : S3072x2176.Idx → EReal) ((win0_0.blk t).view.emb (ix2 r k)) = _
  rw [ent0, e]
  exact cast_x _ _ _ _

/-- Argument 1 where the region is entered. -/
theorem ent1 (c : Dev nD) : (V m c main_v1 : S3072x1.Idx → EReal) = shapeCast S3072x1 (A1 m c) shapeCasts_S3x1024x1_S3072x1 := by
  entry_read
  rfl

/-- Input window 1's block, at an element. -/
theorem blk1 (c : Dev nD) (t : Fin cfg0.N) (r : Fin 3072)  (h : r.val < 3072) : (iblk m c 1 t (ix2 r 0) : EReal)
    = A1 m c (ix3 ⟨(r.val) / 1024, by omega⟩ ⟨(r.val) % 1024, by omega⟩ 0) := by
  have e : (win0_1.blk t).view.emb (ix2 r 0) = (ix2 r 0) := by blk_ext [ind1]
  show (V m c main_v1 : S3072x1.Idx → EReal) ((win0_1.blk t).view.emb (ix2 r 0)) = _
  rw [ent1, e]
  exact cast_s _ _ _

/-- Input window 2's block, at an element. -/
theorem blk2 (c : Dev nD) (t : Fin cfg0.N) (r : Fin 3072) (k : Fin 2176) (n : Fin 3584) (h : r.val < 3072) : (iblk m c 2 t (ix2 k n) : EReal)
    = A2 m c (ix2 k n) := by
  have e : (win0_2.blk t).view.emb (ix2 k n) = (ix2 k n) := by blk_ext [ind2]
  show (V m c main_arg2 : S2176x3584.Idx → EReal) ((win0_2.blk t).view.emb (ix2 k n)) = _
  rw [ent2, e]

/-- Argument 3 where the region is entered. -/
theorem ent3 (c : Dev nD) : (V m c main_v2 : S1x3584.Idx → EReal) = shapeCast S1x3584 (A3 m c) shapeCasts_S3584_S1x3584 := by
  entry_read
  rfl

/-- Input window 3's block, at an element. -/
theorem blk3 (c : Dev nD) (t : Fin cfg0.N) (r : Fin 3072) (n : Fin 3584) (h : r.val < 3072) : (iblk m c 3 t (ix2 0 n) : EReal)
    = A3 m c (ix1 n) := by
  have e : (win0_3.blk t).view.emb (ix2 0 n) = (ix2 0 n) := by blk_ext [ind3]
  show (V m c main_v2 : S1x3584.Idx → EReal) ((win0_3.blk t).view.emb (ix2 0 n)) = _
  rw [ent3, e]
  exact cast_w _ _ _

/-- Argument 4 where the region is entered. -/
theorem ent4 (c : Dev nD) : (V m c main_v3 : S3072x3584.Idx → EReal) = shapeCast S3072x3584 (A4 m c) shapeCasts_S3x1024x3584_S3072x3584 := by
  entry_read
  rfl

/-- Input window 4's block, at an element. -/
theorem blk4 (c : Dev nD) (t : Fin cfg0.N) (r : Fin 3072) (n : Fin 3584) (h : r.val < 3072) : (iblk m c 4 t (ix2 r n) : EReal)
    = A4 m c (ix3 ⟨(r.val) / 1024, by omega⟩ ⟨(r.val) % 1024, by omega⟩ n) := by
  have e : (win0_4.blk t).view.emb (ix2 r n) = (ix2 ⟨r.val, h⟩ n) := by blk_ext [ind4]
  show (V m c main_v3 : S3072x3584.Idx → EReal) ((win0_4.blk t).view.emb (ix2 r n)) = _
  rw [ent4, e]
  exact cast_r _ _ _ _

/-- After the run the first result's array holds the projection of all the rows. -/
theorem final6 (c : Dev nD) : (dats m 0 c).arrAt 6 cfg0.N = outM m c := by
  refine (dats m 0 c).arrAt_eq_of_after_last 6 t0_0 (by decide +kernel) _ fun y => ?_
  blk_simp
  rw [after0_6]
  frame_out
  obtain ⟨r, n, rfl⟩ : ∃ (r : Fin 3072) (n : Fin 3584), y = ix2 r n := ⟨y 0, y 1, eq_ix2 y⟩
  rw [pay3_apply]
  unfold outM Cert.Spec.outG
  dsimp only [ix2_0, ix2_1]
  reads_congr
  exacts [blk0 m c t0_0 r _ r.isLt, blk2 m c t0_0 r _ _ r.isLt, blk1 m c t0_0 r r.isLt, blk3 m c t0_0 r _ r.isLt, blk4 m c t0_0 r _ r.isLt]

/-- The first result, after the reshapes that follow the call. -/
theorem tail6 (c : Dev nD) : Pipeline.afterTail₀ cfgs (dats m) 0 (V0 m) [hostOps1] c main_v6
    = shapeCast S3x1024x3584 ((dats m 0 c).arrAt 6 cfg0.N) shapeCasts_S3072x3584_S3x1024x3584 := by
  unfold Pipeline.afterTail₀
  simp only [hostOps1, List.flatten_cons, List.flatten_nil, List.append_nil]
  after_results
  have h := Pipeline.withArrays_arr (cfgs 0).spec (by decide : Function.Injective (Pipeline.arrRef spec0)) c (V0 m c) (fun w => (dats m 0 c).arrAt w (cfgs 0).N) 6
  exact congrArg (fun x : S3072x3584.Idx → Ideal .bf16 => shapeCast S3x1024x3584 x shapeCasts_S3072x3584_S3x1024x3584) h

end Cert.ReferenceIdeal.Gen

end
-- ==== Proof.K.RefQuant.lean ====
module

public import proofs.«01_k».proof.Proof.K.RefArr
public import proofs.«01_k».proof.Proof.K.Row

@[expose] public section

set_option maxRecDepth 16384

noncomputable section

namespace Cert.ReferenceIdeal.Gen

open Idealize.ShloMosaic Idealize.ShloMosaic.TcCoe Idealize.ShloMosaic.Tactic
open Cert.Num

/-- A row's scale, from any column of largest magnitudes and any row of powers. -/
theorem pay1_gen (p : FVec Ideal S3072x1 .f32) (u : FVec Ideal S1x254 .f32) (c : Ideal .f32) (r : Fin 3072) :
    (k0_pay1 p u c (ix2 r 0) : EReal) = if (p (ix2 r 0) : EReal) = 0 then Ideal.ofBits .f32 0x3F800000#32 else
      Finset.univ.fold min (Ideal.ofBits .f32 0x7F800000#32) (fun i : Fin 254 =>
        if (p (ix2 r 0) * c : EReal) < u (ix2 0 i) then (u (ix2 0 i) : EReal) else Ideal.ofBits .f32 0x7F800000#32) := by
  pointwise [k0_pay1]

/-- A code, from any normalised rows, column of largest magnitudes and row of powers. -/
theorem pay2_gen (v : FVec Ideal S3072x3584 .f32) (p : FVec Ideal S3072x1 .f32) (u : FVec Ideal S1x254 .f32) (c : Ideal .f32) (r : Fin 3072) (n : Fin 3584) :
    (k0_pay2 v p u c (ix2 r n) : EReal) = min (Ideal.ofBits .f32 0x43E00000#32) (max (Ideal.ofBits .f32 0xC3E00000#32)
      (v (ix2 r n) * Ideal.div (Ideal.ofBits .f32 0x3F800000#32) (k0_pay1 p u c (ix2 r 0)))) := by
  unfold k0_pay2
  generalize k0_pay1 p u c = q
  pointwise

/-- The reference's powers of two, at an element. -/
theorem pay6_apply (i : Fin 254) : ((k0_pay6 : FVec Ideal S1x254 .f32) (ix2 0 i) : EReal) = pr i := by
  pointwise [k0_pay6]
  rfl

section Pay

variable (x : Vec Ideal S3072x2176 .fp8e4m3) (w : Vec Ideal S2176x3584 .fp8e4m3) (xs : Vec Ideal S3072x1 .f32)
  (ws : Vec Ideal S1x3584 .f32) (res : Vec Ideal S3072x3584 .bf16) (gm : Vec Ideal S1x3584 .bf16)

/-- A row of the projection. -/
def rowP (r : Fin 3072) (n : Fin 3584) : EReal := k0_pay3 x w xs ws res (ix2 r n)
/-- Gamma. -/
def gP (n : Fin 3584) : EReal := gm (ix2 0 n)

/-- The normalised rows times gamma, at an element. -/
theorem pay4_apply (r : Fin 3072) (n : Fin 3584) :
    (k0_pay4 x w xs ws res gm (ix2 r n) : EReal) = rowP x w xs ws res r n * Num.inv (rowP x w xs ws res r) * gP gm n := by
  unfold rowP gP Num.inv
  unfold k0_pay4
  generalize k0_pay3 x w xs ws res = p
  pointwise

/-- The largest magnitude of a row. -/
theorem pay5_apply (r : Fin 3072) :
    (k0_pay5 x w xs ws res gm (ix2 r 0) : EReal) = aR (rowP x w xs ws res r) (gP gm) := by
  unfold aR
  simp only [← pay4_apply]
  unfold k0_pay5
  generalize k0_pay4 x w xs ws res gm = p
  pointwise
  have h : Ideal.ofBits .f32 0xFF800000#32 = ⊥ := by simp [Ideal.ofBits, Ideal.ieee]
  rw [h]
  rfl

/-- A row's scale. -/
theorem pay1_apply (r : Fin 3072) :
    (k0_pay1 (k0_pay5 x w xs ws res gm) k0_pay6 (Scalar.ofBits .f32 0x3B124925#32) (ix2 r 0) : EReal)
      = scaleR (rowP x w xs ws res r) (gP gm) := by
  have hz : Ideal.ofBits .f32 0x00000000#32 = 0 := pw_zero
  rw [pay1_gen, pay5_apply]
  unfold scaleR
  simp only [cmp_eq, cmp_lt, hz, pay6_apply]
  rfl

/-- A code. -/
theorem pay2_apply (r : Fin 3072) (n : Fin 3584) :
    (k0_pay2 (k0_pay4 x w xs ws res gm) (k0_pay5 x w xs ws res gm) k0_pay6 (Scalar.ofBits .f32 0x3B124925#32) (ix2 r n) : EReal)
      = codeR (rowP x w xs ws res r) (gP gm) n := by
  rw [pay2_gen, pay1_apply, pay4_apply]
  rfl

end Pay

end Cert.ReferenceIdeal.Gen

end
-- ==== Proof.K.RefQArr.lean ====
module

public import proofs.«01_k».proof.Proof.K.RefArr
public import proofs.«01_k».proof.Proof.K.RefQuant
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic
open Idealize.ShloMosaic.Pipeline (Dat Cfg Window)
open Cert.Spec (cast_x cast_r cast_s cast_b cast_w)
open Cert.Num

variable (m : (ℓ : Loc nD τ sig) → Buf (Elt Ideal) ℓ)

/-- Gamma, as the launch finds it. -/
def A5 (c : Dev nD) : FVec Ideal S3584 .bf16 := m ((c : Thread nD τ).loc main_arg5)

/-- A row of the projection of this memory's argument arrays. -/
def rowM (c : Dev nD) (q : Fin 3072) (n : Fin 3584) : EReal := outM m c (ix2 q n)
/-- Gamma of this memory. -/
def gM (c : Dev nD) (n : Fin 3584) : EReal := A5 m c (ix1 n)

/-- Where window 5 lies. -/
theorem ind5 : ∀ t : Fin cfg0.N, win0_5.index t = ![0, 0] := (by decide +kernel : ∀ t : Fin grid0.N, _)

/-- Argument 5 where the region is entered. -/
theorem ent5 (c : Dev nD) : (V m c main_v4 : S1x3584.Idx → EReal) = shapeCast S1x3584 (A5 m c) shapeCasts_S3584_S1x3584 := by
  entry_read
  rfl

/-- Input window 5's block, at an element. -/
theorem blk5 (c : Dev nD) (t : Fin cfg0.N) (n : Fin 3584) : (iblk m c 5 t (ix2 0 n) : EReal) = gM m c n := by
  have e : (win0_5.blk t).view.emb (ix2 0 n) = (ix2 0 n) := by blk_ext [ind5]
  show (V m c main_v4 : S1x3584.Idx → EReal) ((win0_5.blk t).view.emb (ix2 0 n)) = _
  rw [ent5, e]
  exact cast_w _ _ _

/-- Where window 7 lies. -/
theorem ind7 : ∀ t : Fin cfg0.N, win0_7.index t = ![0, 0] := (by decide +kernel : ∀ t : Fin grid0.N, _)
/-- Where window 8 lies. -/
theorem ind8 : ∀ t : Fin cfg0.N, win0_8.index t = ![0, 0] := (by decide +kernel : ∀ t : Fin grid0.N, _)

/-- A row of the projection the body computes. -/
theorem row_blk (c : Dev nD) (r : Fin 3072) :
    rowP (iblk m c 0 t0_0) (iblk m c 2 t0_0) (iblk m c 1 t0_0) (iblk m c 3 t0_0) (iblk m c 4 t0_0) r = rowM m c r := by
  funext n
  unfold rowP rowM
  rw [pay3_apply]
  unfold outM Cert.Spec.outG
  dsimp only [ix2_0, ix2_1]
  reads_congr
  exacts [blk0 m c t0_0 r _ r.isLt, blk2 m c t0_0 r _ _ r.isLt, blk1 m c t0_0 r r.isLt, blk3 m c t0_0 r _ r.isLt, blk4 m c t0_0 r _ r.isLt]

/-- Gamma, as the body reads it. -/
theorem g_blk (c : Dev nD) : gP (iblk m c 5 t0_0) = gM m c := by
  funext n
  exact blk5 m c t0_0 n

/-- The largest magnitudes, read through the whole windows. -/
theorem pay7_eq (x0 : Vec Ideal S3072x2176 .fp8e4m3) (x1 : Vec Ideal S3072x1 .f32) (x2 : Vec Ideal S2176x3584 .fp8e4m3)
    (x3 : Vec Ideal S1x3584 .f32) (x4 : Vec Ideal S3072x3584 .bf16) (x5 : Vec Ideal S1x3584 .bf16) :
    k0_pay7 x0 x1 x2 x3 x4 x5 = k0_pay5 x0 x2 x1 x3 x4 x5 := by
  have e0 : View.ld x0 r0_0 = x0 := View.ld_unit_lit _ x0 (by decide)
  have e1 : View.ld x1 r0_2 = x1 := View.ld_unit_lit _ x1 (by decide)
  have e2 : View.ld x2 r0_1 = x2 := View.ld_unit_lit _ x2 (by decide)
  have e3 : View.ld x3 r0_3 = x3 := View.ld_unit_lit _ x3 (by decide)
  have e4 : View.ld x4 r0_4 = x4 := View.ld_unit_lit _ x4 (by decide)
  have e5 : View.ld x5 r0_3 = x5 := View.ld_unit_lit _ x5 (by decide)
  unfold k0_pay7
  rw [e0, e1, e2, e3, e4, e5]

/-- The codes of all the rows. -/
def codeM (c : Dev nD) : S3072x3584.Idx → EReal := fun j => codeR (rowM m c ⟨(j 0).val, (j 0).isLt⟩) (gM m c) ⟨(j 1).val, (j 1).isLt⟩
/-- The scales of all the rows, as a column. -/
def scaleC (c : Dev nD) : S3072x1.Idx → EReal := fun j => scaleR (rowM m c ⟨(j 0).val, (j 0).isLt⟩) (gM m c)

/-- After the run the second result's array holds the codes of all the rows. -/
theorem final7 (c : Dev nD) : (dats m 0 c).arrAt 7 cfg0.N = codeM m c := by
  refine (dats m 0 c).arrAt_eq_of_after_last 7 t0_0 (by decide +kernel) _ fun y => ?_
  blk_simp
  rw [after0_7]
  frame_out
  obtain ⟨r, n, rfl⟩ : ∃ (r : Fin 3072) (n : Fin 3584), y = ix2 r n := ⟨y 0, y 1, eq_ix2 y⟩
  rw [pay7_eq]
  unfold k0_pay8
  rw [pay2_apply, row_blk, g_blk]
  unfold codeM
  dsimp only [ix2_0, ix2_1]

/-- After the run the third result's array holds the scales of all the rows. -/
theorem final8 (c : Dev nD) : (dats m 0 c).arrAt 8 cfg0.N = scaleC m c := by
  refine (dats m 0 c).arrAt_eq_of_after_last 8 t0_0 (by decide +kernel) _ fun y => ?_
  blk_simp
  rw [after0_8]
  frame_out
  obtain ⟨r, rfl⟩ : ∃ (r : Fin 3072), y = ix2 r 0 := ⟨y 0, (eq_ix2 y).trans ((ix2_inj _ _ _ _).mpr ⟨rfl, Subsingleton.elim _ _⟩)⟩
  rw [pay7_eq]
  unfold k0_pay8
  rw [pay1_apply, row_blk, g_blk]
  unfold scaleC
  dsimp only [ix2_0]

/-- The second result, after the reshapes that follow the call. -/
theorem tail7 (c : Dev nD) : Pipeline.afterTail₀ cfgs (dats m) 0 (V0 m) [hostOps1] c main_v7
    = shapeCast S3x1024x3584 ((dats m 0 c).arrAt 7 cfg0.N) shapeCasts_S3072x3584_S3x1024x3584 := by
  unfold Pipeline.afterTail₀
  simp only [hostOps1, List.flatten_cons, List.flatten_nil, List.append_nil]
  after_results
  have h := Pipeline.withArrays_arr (cfgs 0).spec (by decide : Function.Injective (Pipeline.arrRef spec0)) c (V0 m c) (fun w => (dats m 0 c).arrAt w (cfgs 0).N) 7
  exact congrArg (fun x : S3072x3584.Idx → Ideal .fp8e4m3 => shapeCast S3x1024x3584 x shapeCasts_S3072x3584_S3x1024x3584) h

/-- The third result, after the reshapes that follow the call. -/
theorem tail8 (c : Dev nD) : Pipeline.afterTail₀ cfgs (dats m) 0 (V0 m) [hostOps1] c main_v8
    = shapeCast S3x1024x1 ((dats m 0 c).arrAt 8 cfg0.N) shapeCasts_S3072x1_S3x1024x1 := by
  unfold Pipeline.afterTail₀
  simp only [hostOps1, List.flatten_cons, List.flatten_nil, List.append_nil]
  after_results
  have h := Pipeline.withArrays_arr (cfgs 0).spec (by decide : Function.Injective (Pipeline.arrRef spec0)) c (V0 m c) (fun w => (dats m 0 c).arrAt w (cfgs 0).N) 8
  exact congrArg (fun x : S3072x1.Idx → Ideal .f32 => shapeCast S3x1024x1 x shapeCasts_S3072x1_S3x1024x1) h

variable (g : Dev nD → PrngReg)

/-- From any memory the program ends with its three results at the arrays of the call, and its arguments as they were. -/
theorem run678 : θ_run defs (onTc (τ := τ) (main (F := Ideal))) ⟨m, fun _ => 0, g⟩ (fun r => ∀ c : Dev nD,
      r.2.mem ((c.tc : Thread nD τ).loc main_v6) = shapeCast S3x1024x3584 ((dats m 0 c).arrAt 6 cfg0.N) shapeCasts_S3072x3584_S3x1024x3584
      ∧ r.2.mem ((c.tc : Thread nD τ).loc main_v7) = shapeCast S3x1024x3584 ((dats m 0 c).arrAt 7 cfg0.N) shapeCasts_S3072x3584_S3x1024x3584
      ∧ r.2.mem ((c.tc : Thread nD τ).loc main_v8) = shapeCast S3x1024x1 ((dats m 0 c).arrAt 8 cfg0.N) shapeCasts_S3072x1_S3x1024x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from run_main m g
  · exact tail6 m c
  · exact tail7 m c
  · exact tail8 m c
  · exact W_main_arg0 m (dats m) c
  · exact W_main_arg1 m (dats m) c
  · exact W_main_arg3 m (dats m) c
  · exact W_main_arg4 m (dats m) c
  · exact W_main_arg5 m (dats m) c

end Cert.ReferenceIdeal.Gen

end
-- ==== Proof.K.Cast.lean ====
module

public import Idealize.ShloMosaic.Lib.Pointwise

@[expose] public section

noncomputable section

namespace Cert.Spec

open Idealize.ShloMosaic

/-- A column of all the rows in the results' form, at an element. -/
theorem uncast_c {φ : FTy} (x : FVec Ideal ⟨2, ![3072, 1]⟩ φ) (h) (a : Fin 3) (b : Fin 1024) :
    shapeCast ⟨3, ![3, 1024, 1]⟩ x h (ix3 a b 0) = x (ix2 ⟨a.val * 1024 + b.val, by omega⟩ 0) := by
  pointwise

/-- Blocks of two rows of 128 in the results' form, at an element. -/
theorem uncast_b {φ : FTy} (x : FVec Ideal ⟨3, ![12, 2, 128]⟩ φ) (h) (a : Fin 3) (b : Fin 1024) :
    shapeCast ⟨3, ![3, 1024, 1]⟩ x h (ix3 a b 0) = x (ix3 ⟨a.val * 4 + b.val / 256, by omega⟩ ⟨b.val / 128 % 2, by omega⟩ ⟨b.val % 128, by omega⟩) := by
  pointwise

end Cert.Spec

end
-- ==== Proof.K.Alg.lean ====
module

public import proofs.«01_k».proof.Defs
public import proofs.«01_k».proof.Proof.K.QuantArr
public import proofs.«01_k».proof.Proof.K.RefQArr
public import proofs.«01_k».proof.Proof.K.Cast
public import Idealize.ShloMosaic.Lib.ReduceAll

@[expose] public section

set_option maxRecDepth 16384

noncomputable section

namespace Cert.Alg

open Idealize.ShloMosaic Idealize.ShloMosaic.TcCoe

/-- The side conditions of the choice of compared elements. -/
theorem on_facts : Cert.On_compared.Facts := ⟨by decide, by decide, by decide, by decide, by decide, by decide⟩

instance : Cert.On_compared.Facts := on_facts

open Cert.Num

/-- The test on gamma that the comparison makes: no magnitude is above the largest bfloat16. -/
def okG (x : FVec Ideal Cert.On_compared.S3584 .bf16) : IVec Cert.On_compared.S_ 1 :=
  Host.reduce IntOp.andi (cmpf .ole (Host.absf (extf .f32 x Cert.On_compared.Facts.bitsLt_bf16_f32 : FVec Ideal Cert.On_compared.S3584 .f32))
      (broadcastInDim Cert.On_compared.S3584 ![] Cert.On_compared.Facts.bcast_S_S3584 (constant Cert.On_compared.S_ .f32 0x7F7F0000#32 : FVec Ideal Cert.On_compared.S_ .f32)))
    (constantI Cert.On_compared.S_ 1 1#1) Cert.On_compared.Facts.reducesTo_S3584_S_d0 Cert.On_compared.Facts.h_S_

/-- Where the test holds, every magnitude of gamma is at most the largest bfloat16. -/
theorem okG_bound (x : FVec Ideal Cert.On_compared.S3584 .bf16) (j : Cert.On_compared.S_.Idx) (h : okG x j = 1#1) (n : Fin 3584) :
    mag (x (ix1 n)) ≤ ((maxR : ℝ) : EReal) := by
  have : Subsingleton Cert.On_compared.S_.Idx := ⟨fun a b => funext fun i => i.elim0⟩
  have h1 := Host.reduce_andi_all _ _ _ _ _ h (ix1 n)
  have h2 : Ideal.cmp .ole (mag (x (ix1 n))) (Ideal.ofBits .f32 0x7F7F0000#32) = 1#1 := h1
  rw [cmax] at h2
  by_contra hc
  have h3 : Ideal.cmp .ole (mag (x (ix1 n))) ((maxR : ℝ) : EReal) = BitVec.ofBool (decide (mag (x (ix1 n)) ≤ ((maxR : ℝ) : EReal))) := rfl
  rw [h3, decide_eq_false hc] at h2
  exact absurd h2 (by decide)

/-- Where an element of the codes is compared, gamma's magnitudes are at most the largest bfloat16. -/
theorem mask_codes (a0 : FVec Ideal Cert.On_compared.S3x1024x2176 .fp8e4m3) (a1 : FVec Ideal Cert.On_compared.S3x1024x1 .f32)
    (a2 : FVec Ideal Cert.On_compared.S2176x3584 .fp8e4m3) (a3 : FVec Ideal Cert.On_compared.S3584 .f32)
    (a4 : FVec Ideal Cert.On_compared.S3x1024x3584 .bf16) (a5 : FVec Ideal Cert.On_compared.S3584 .bf16) (i : Cert.On_compared.S3x1024x3584.Idx)
    (h : (Cert.On_compared.fn a0 a1 a2 a3 a4 a5).2.1 i = 1#1) (n : Fin 3584) : mag (a5 (ix1 n)) ≤ ((maxR : ℝ) : EReal) := by
  unfold Cert.On_compared.fn at h
  dsimp only at h
  exact okG_bound a5 _ h n

/-- Where an element of the scales is compared, gamma's magnitudes are at most the largest bfloat16. -/
theorem mask_scales (a0 : FVec Ideal Cert.On_compared.S3x1024x2176 .fp8e4m3) (a1 : FVec Ideal Cert.On_compared.S3x1024x1 .f32)
    (a2 : FVec Ideal Cert.On_compared.S2176x3584 .fp8e4m3) (a3 : FVec Ideal Cert.On_compared.S3584 .f32)
    (a4 : FVec Ideal Cert.On_compared.S3x1024x3584 .bf16) (a5 : FVec Ideal Cert.On_compared.S3584 .bf16) (i : Cert.On_compared.S3x1024x1.Idx)
    (h : (Cert.On_compared.fn a0 a1 a2 a3 a4 a5).2.2 i = 1#1) (n : Fin 3584) : mag (a5 (ix1 n)) ≤ ((maxR : ℝ) : EReal) := by
  unfold Cert.On_compared.fn at h
  dsimp only at h
  exact okG_bound a5 _ h n

/-- On the real numbers with the two infinities, the kernel's results are the reference's: the first at every element, the codes and
    their scales at every element when gamma has no magnitude above the largest bfloat16. -/
theorem algebraic : Cert.algebraic_KernelIdeal_ReferenceIdeal_on_compared := by
  intro m g m' g' _ hm
  have key : ∀ c, Cert.ReferenceIdeal.Gen.outM m' c = Cert.KernelIdeal.Gen.outM m c := by
    intro c
    obtain ⟨h0, h1, h2, h3, h4, _⟩ := hm c
    unfold Cert.ReferenceIdeal.Gen.outM Cert.KernelIdeal.Gen.outM
    unfold Cert.ReferenceIdeal.Gen.A0 Cert.ReferenceIdeal.Gen.A1 Cert.ReferenceIdeal.Gen.A2 Cert.ReferenceIdeal.Gen.A3 Cert.ReferenceIdeal.Gen.A4
    rw [h0, h1, h2, h3, h4]
    rfl
  have keyG : ∀ c, Cert.ReferenceIdeal.Gen.gM m' c = Cert.KernelIdeal.Gen.gM m c := by
    intro c
    obtain ⟨_, _, _, _, _, h5⟩ := hm c
    unfold Cert.ReferenceIdeal.Gen.gM Cert.ReferenceIdeal.Gen.A5
    rw [h5]
    rfl
  have keyR : ∀ c q, Cert.ReferenceIdeal.Gen.rowM m' c q = Cert.KernelIdeal.Gen.rowM m c q := by
    intro c q
    unfold Cert.ReferenceIdeal.Gen.rowM Cert.KernelIdeal.Gen.rowM
    rw [key]
  have keyC : ∀ c, Cert.ReferenceIdeal.Gen.codeM m' c = Cert.KernelIdeal.Gen.codeM m c := by
    intro c
    unfold Cert.ReferenceIdeal.Gen.codeM Cert.KernelIdeal.Gen.codeM
    simp only [keyG, keyR]
  have keyS : ∀ c, (shapeCast Cert.ReferenceIdeal.S3x1024x1 (Cert.ReferenceIdeal.Gen.scaleC m' c : FVec Ideal Cert.ReferenceIdeal.S3072x1 .f32) (by decide) : FVec Ideal Cert.ReferenceIdeal.S3x1024x1 .f32)
      = shapeCast Cert.KernelIdeal.S3x1024x1 (Cert.KernelIdeal.Gen.scaleB m c : FVec Ideal Cert.KernelIdeal.S12x2x128 .f32) (by decide) := by
    intro c
    funext j
    obtain ⟨a, b, rfl⟩ : ∃ (a : Fin 3) (b : Fin 1024), j = ix3 a b 0 := ⟨j 0, j 1, (eq_ix3 j).trans ((ix3_inj _ _ _ _ _ _).mpr ⟨rfl, rfl, Subsingleton.elim _ _⟩)⟩
    refine (Cert.Spec.uncast_c _ _ a b).trans (Eq.trans ?_ (Cert.Spec.uncast_b _ _ a b).symm)
    unfold Cert.ReferenceIdeal.Gen.scaleC Cert.KernelIdeal.Gen.scaleB
    dsimp only [ix2_0, ix3_0, ix3_1, ix3_2]
    rw [keyG, keyR]
    have e : (⟨a.val * 1024 + b.val, by omega⟩ : Fin 3072) = ⟨(a.val * 4 + b.val / 256) * 256 + b.val / 128 % 2 * 128 + b.val % 128, by omega⟩ :=
      Fin.ext (by dsimp only; omega)
    rw [e]
  refine ⟨fun c => shapeCast Cert.KernelIdeal.S3x1024x3584 (Cert.KernelIdeal.Gen.outM m c : FVec Ideal Cert.KernelIdeal.S3072x3584 .bf16) (by decide),
    fun c => shapeCast Cert.KernelIdeal.S3x1024x3584 (Cert.KernelIdeal.Gen.codeM m c : FVec Ideal Cert.KernelIdeal.S3072x3584 .fp8e4m3) (by decide),
    fun c => shapeCast Cert.KernelIdeal.S3x1024x1 (Cert.KernelIdeal.Gen.scaleB m c : FVec Ideal Cert.KernelIdeal.S12x2x128 .f32) (by decide), ?_, ?_⟩
  · refine (θ_run _ _ _).mono (fun r hr c => ?_) (Cert.KernelIdeal.Gen.run678 m g)
    obtain ⟨h6, h7, h8, hargs⟩ := hr c
    refine ⟨fun i _ => ?_, fun i hi => ?_, fun i hi => ?_, hargs⟩
    · rw [h6, Cert.KernelIdeal.Gen.final6]
    · have hb : ∀ n, mag (Cert.KernelIdeal.Gen.gM m c n) ≤ ((maxR : ℝ) : EReal) := mask_codes _ _ _ _ _ _ i hi
      rw [h7, Cert.KernelIdeal.Gen.final7 m c hb]
    · have hb : ∀ n, mag (Cert.KernelIdeal.Gen.gM m c n) ≤ ((maxR : ℝ) : EReal) := mask_scales _ _ _ _ _ _ i hi
      rw [h8, Cert.KernelIdeal.Gen.final8 m c hb]
  · refine (θ_run _ _ _).mono (fun r hr c => ?_) (Cert.ReferenceIdeal.Gen.run678 m' g')
    obtain ⟨h6, h7, h8, hargs⟩ := hr c
    refine ⟨fun i _ => ?_, fun i _ => ?_, fun i _ => ?_, hargs⟩
    · rw [h6, Cert.ReferenceIdeal.Gen.final6, key]
    · rw [h7, Cert.ReferenceIdeal.Gen.final7, keyC]
    · rw [h8, Cert.ReferenceIdeal.Gen.final8, keyS]

end Cert.Alg

end
-- ==== Proof.lean ====
module

public import proofs.«01_k».proof.Defs
public import proofs.«01_k».proof.Proof.K.Same
public import proofs.«01_k».proof.Proof.Gen.ReferenceIdeal.Frame
public import proofs.«01_k».proof.Proof.K.Run
public import proofs.«01_k».proof.Proof.K.Alg

@[expose] public section

/-- All the claims. -/
theorem Cert.Proof.claim : Cert.Claim :=
  ⟨Cert.Kernel.Gen.facts, Cert.KernelIdeal.Gen.facts, Cert.ReferenceIdeal.Gen.facts, Cert.Alg.on_facts,
    fun m ρ _ => Cert.Same.frame m ρ, fun m ρ _ => Cert.KernelIdeal.Gen.frame m ρ,
    fun m ρ _ => Cert.ReferenceIdeal.Gen.frame m ρ, trivial, Cert.Alg.algebraic⟩
